-- ==== Defs.lean ====
def Pre_Kernel [hPre_indices_in_vocab : Cert.Pre_indices_in_vocab.Facts] (m : (ℓ : Loc Cert.Kernel.nD Cert.Kernel.τ Cert.Kernel.sig) → Buf (Elt Bits) ℓ) : Prop :=
  ∀ c : Dev Cert.Kernel.nD,
    (Cert.Pre_indices_in_vocab.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_indices_in_vocab : Cert.Pre_indices_in_vocab.Facts] (m : (ℓ : Loc Cert.KernelIdeal.nD Cert.KernelIdeal.τ Cert.KernelIdeal.sig) → Buf (Elt Ideal) ℓ) : Prop :=
  ∀ c : Dev Cert.KernelIdeal.nD,
    (Cert.Pre_indices_in_vocab.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_indices_in_vocab : Cert.Pre_indices_in_vocab.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_indices_in_vocab.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_indices_in_vocab : Cert.Pre_indices_in_vocab.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_indices_in_vocab : Cert.Pre_indices_in_vocab.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] [hPre_indices_in_vocab : Cert.Pre_indices_in_vocab.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_indices_in_vocab : Cert.Pre_indices_in_vocab.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_indices_in_vocab : Cert.Pre_indices_in_vocab.Facts),
    quiescent_Kernel (hKernel := hKernel) (hPre_indices_in_vocab := hPre_indices_in_vocab)
    ∧ quiescent_KernelIdeal (hKernelIdeal := hKernelIdeal) (hPre_indices_in_vocab := hPre_indices_in_vocab)
    ∧ quiescent_ReferenceIdeal (hReferenceIdeal := hReferenceIdeal) (hPre_indices_in_vocab := hPre_indices_in_vocab)
    ∧ preserves_Kernel_KernelIdeal
    ∧ algebraic_KernelIdeal_ReferenceIdeal (hKernelIdeal := hKernelIdeal) (hReferenceIdeal := hReferenceIdeal) (hPre_indices_in_vocab := hPre_indices_in_vocab)
-- ==== Pre_indices_in_vocab.lean ====
abbrev S16384x50 : Shape := ⟨2, ![16384, 50]⟩
abbrev S100000x64 : Shape := ⟨2, ![100000, 64]⟩
abbrev S100000 : Shape := ⟨1, ![100000]⟩
abbrev S_ : Shape := ⟨0, ![]⟩

class Facts : Prop where
  bcast_S_S16384x50 : S_.BroadcastsInDim S16384x50 (![] : Fin 0 → Fin S16384x50.rank)
  reducesTo_S16384x50_S_d0_1 : S16384x50.ReducesTo [0, 1] S_
  h_S_ : 0 < S_.numel

variable [Facts]

def fn {F : FTy → Type} [FloatOps F] (main_arg0 : IVec S16384x50 32) (main_arg1 : FVec F S100000x64 .f32) (main_arg2 : FVec F S100000x64 .f32) (main_arg3 : FVec F S100000 .f32) : IVec S_ 1 :=
  let main_c : IVec S_ 32 := constantI S_ 32 0#32
  let main_v0 : IVec S16384x50 32 := broadcastInDim S16384x50 ![] bcast_S_S16384x50 main_c
  let main_v1 : IVec S16384x50 1 := cmpi .sge main_arg0 main_v0
  let main_c_0 : IVec S_ 32 := constantI S_ 32 100000#32
  let main_v2 : IVec S16384x50 32 := broadcastInDim S16384x50 ![] bcast_S_S16384x50 main_c_0
  let main_v3 : IVec S16384x50 1 := cmpi .slt main_arg0 main_v2
  let main_v4 : IVec S16384x50 1 := andi main_v1 main_v3
  let main_c_1 : IVec S_ 1 := constantI S_ 1 1#1
  let main_v5 : IVec S_ 1 := (fun x v => Host.reduce IntOp.andi x v reducesTo_S16384x50_S_d0_1 h_S_) main_v4 main_c_1
  main_v5
-- ==== Kernel.lean ====
abbrev S16384x50 : Shape := ⟨2, ![16384, 50]⟩
abbrev S100000x64 : Shape := ⟨2, ![100000, 64]⟩
abbrev S100000 : Shape := ⟨1, ![100000]⟩
abbrev S50x16384 : Shape := ⟨2, ![50, 16384]⟩
abbrev S32x200x128 : Shape := ⟨3, ![32, 200, 128]⟩
abbrev S_ : Shape := ⟨0, ![]⟩
abbrev S100000x128 : Shape := ⟨2, ![100000, 128]⟩
abbrev S32x3200 : Shape := ⟨2, ![32, 3200]⟩
abbrev S200x128 : Shape := ⟨2, ![200, 128]⟩
abbrev S4x128x128 : Shape := ⟨3, ![4, 128, 128]⟩
abbrev S3200 : Shape := ⟨1, ![3200]⟩
abbrev S1x200x128 : Shape := ⟨3, ![1, 200, 128]⟩
abbrev S16 : Shape := ⟨1, ![16]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S1x16 : Shape := ⟨2, ![1, 16]⟩
abbrev S1x3200 : Shape := ⟨2, ![1, 3200]⟩
abbrev S32x50x64 : Shape := ⟨3, ![32, 50, 64]⟩
abbrev S64x100000 : Shape := ⟨2, ![64, 100000]⟩
abbrev S1x100000 : Shape := ⟨2, ![1, 100000]⟩
abbrev S50x100000 : Shape := ⟨2, ![50, 100000]⟩
abbrev S64x16384 : Shape := ⟨2, ![64, 16384]⟩
abbrev S1x16384 : Shape := ⟨2, ![1, 16384]⟩
abbrev S50x64 : Shape := ⟨2, ![50, 64]⟩
abbrev S16384 : Shape := ⟨1, ![16384]⟩

abbrev nBuf : Table → Nat
  | .hbm => 14
  | .local .tc .vmem => 7
  | .local .scVector .vmem => 3
  | _ => 0

abbrev bufTy : (tb : Table) → Fin (nBuf tb) → BufTy
  | .hbm, ⟨0, _⟩ => ⟨S16384x50, .i32⟩
  | .hbm, ⟨1, _⟩ => ⟨S100000x64, .f32⟩
  | .hbm, ⟨2, _⟩ => ⟨S100000x64, .f32⟩
  | .hbm, ⟨3, _⟩ => ⟨S100000, .f32⟩
  | .hbm, ⟨4, _⟩ => ⟨S50x16384, .i32⟩
  | .hbm, ⟨5, _⟩ => ⟨S32x200x128, .i32⟩
  | .hbm, ⟨6, _⟩ => ⟨S_, .i32⟩
  | .hbm, ⟨7, _⟩ => ⟨S_, .f32⟩
  | .hbm, ⟨8, _⟩ => ⟨S100000x128, .f32⟩
  | .hbm, ⟨9, _⟩ => ⟨S32x3200, .f32⟩
  | .hbm, ⟨10, _⟩ => ⟨S32x50x64, .f32⟩
  | .hbm, ⟨11, _⟩ => ⟨S64x100000, .f32⟩
  | .hbm, ⟨12, _⟩ => ⟨S1x100000, .f32⟩
  | .hbm, ⟨13, _⟩ => ⟨S50x100000, .f32⟩
  | .local .tc .vmem, ⟨0, _⟩ => ⟨S32x50x64, .f32⟩
  | .local .tc .vmem, ⟨1, _⟩ => ⟨S64x16384, .f32⟩
  | .local .tc .vmem, ⟨2, _⟩ => ⟨S64x16384, .f32⟩
  | .local .tc .vmem, ⟨3, _⟩ => ⟨S1x16384, .f32⟩
  | .local .tc .vmem, ⟨4, _⟩ => ⟨S1x16384, .f32⟩
  | .local .tc .vmem, ⟨5, _⟩ => ⟨S50x16384, .f32⟩
  | .local .tc .vmem, ⟨6, _⟩ => ⟨S50x16384, .f32⟩
  | .local .scVector .vmem, ⟨0, _⟩ => ⟨S200x128, .i32⟩
  | .local .scVector .vmem, ⟨1, _⟩ => ⟨S4x128x128, .f32⟩
  | .local .scVector .vmem, ⟨2, _⟩ => ⟨S3200, .f32⟩
  | _, _ => ⟨S16384x50, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 13 → Bool
  | ⟨0, _⟩ => false
  | ⟨1, _⟩ => false
  | ⟨2, _⟩ => false
  | ⟨3, _⟩ => false
  | ⟨4, _⟩ => false
  | ⟨5, _⟩ => false
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTables nBuf rfl bufTy 4 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v1_scv : Ref sig .scVector := ⟨.hbm, 5, rfl⟩
abbrev main_v2_scv : Ref sig .scVector := ⟨.hbm, 8, rfl⟩
abbrev main_v3_scv : Ref sig .scVector := ⟨.hbm, 9, rfl⟩
abbrev cc1_stg0_0 : Ref sig .tc := ⟨.vmem, 0, rfl⟩
abbrev cc1_stg1_0 : Ref sig .tc := ⟨.vmem, 1, rfl⟩
abbrev cc1_stg1_1 : Ref sig .tc := ⟨.vmem, 2, rfl⟩
abbrev cc1_stg2_0 : Ref sig .tc := ⟨.vmem, 3, rfl⟩
abbrev cc1_stg2_1 : Ref sig .tc := ⟨.vmem, 4, rfl⟩
abbrev cc1_stg3_0 : Ref sig .tc := ⟨.vmem, 5, rfl⟩
abbrev cc1_stg3_1 : Ref sig .tc := ⟨.vmem, 6, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc1_sem0_0 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_29_r0 : BitVec 32 := 0#32
  let c0_i32_30_r0 : BitVec 32 := 0#32
  ![v1.toNat, 0, 0]
@[reducible] def k0_t1_loop : Scf.Loop 32 :=
  let c0_i32_26 : BitVec 32 := 0#32
  let c50_i32 : BitVec 32 := 50#32
  let v624 : BitVec 32 := Scalar.addi c0_i32_26 c50_i32
  let c1_i32_27 : BitVec 32 := 1#32
  ⟨c0_i32_26, v624, c1_i32_27⟩
def k0_off2 (k0_t1 : Fin k0_t1_loop.trips) (c0_i32_29 : BitVec 32) : Fin 2 → Nat :=
  let c4_i32 : BitVec 32 := 4#32
  let c0_i32_26 : BitVec 32 := 0#32
  let c1_i32_27 : BitVec 32 := 1#32
  let arg12 : BitVec 32 := Scf.iv c0_i32_26 c1_i32_27 k0_t1
  let v625 : BitVec 32 := Scalar.muli c4_i32 arg12
  let v626 : BitVec 32 := Scalar.addi v625 c0_i32_29
  let c0_i32_33 : BitVec 32 := 0#32
  ![v626.toNat, 0]
@[reducible] def k0_t2_loop : Scf.Loop 32 :=
  let c0_i32_44 : BitVec 32 := 0#32
  let c4_i32_45 : BitVec 32 := 4#32
  let v653 : BitVec 32 := Scalar.addi c0_i32_44 c4_i32_45
  let c1_i32_46 : BitVec 32 := 1#32
  ⟨c0_i32_44, v653, c1_i32_46⟩
def k0_off3 (k0_t2 : Fin k0_t2_loop.trips) (c0_i32_154 : BitVec 32) : Fin 2 → Nat :=
  let c0_i32_44 : BitVec 32 := 0#32
  let c1_i32_46 : BitVec 32 := 1#32
  let arg13 : BitVec 32 := Scf.iv c0_i32_44 c1_i32_46 k0_t2
  let c32_i32_153 : BitVec 32 := 32#32
  let v933 : BitVec 32 := Scalar.muli arg13 c32_i32_153
  let v934 : BitVec 32 := Scalar.addi v933 c0_i32_154
  let v937 : Index := Scalar.indexCast v934
  let c0_157 : Index := 0#32
  ![v937.toNat, 0]
def k0_off4 (k0_t2 : Fin k0_t2_loop.trips) (c0_i32_158 : BitVec 32) : Fin 2 → Nat :=
  let c0_i32_44 : BitVec 32 := 0#32
  let c1_i32_46 : BitVec 32 := 1#32
  let arg13 : BitVec 32 := Scf.iv c0_i32_44 c1_i32_46 k0_t2
  let c32_i32_153 : BitVec 32 := 32#32
  let v933 : BitVec 32 := Scalar.muli arg13 c32_i32_153
  let v941 : BitVec 32 := Scalar.addi v933 c0_i32_158
  let c1_i32_159 : BitVec 32 := 1#32
  let v942 : BitVec 32 := Scalar.addi v941 c1_i32_159
  let v945 : Index := Scalar.indexCast v942
  let c0_162 : Index := 0#32
  ![v945.toNat, 0]
def k0_off5 (k0_t2 : Fin k0_t2_loop.trips) (c0_i32_163 : BitVec 32) : Fin 2 → Nat :=
  let c0_i32_44 : BitVec 32 := 0#32
  let c1_i32_46 : BitVec 32 := 1#32
  let arg13 : BitVec 32 := Scf.iv c0_i32_44 c1_i32_46 k0_t2
  let c32_i32_153 : BitVec 32 := 32#32
  let v933 : BitVec 32 := Scalar.muli arg13 c32_i32_153
  let v949 : BitVec 32 := Scalar.addi v933 c0_i32_163
  let v952 : Index := Scalar.indexCast v949
  let c16_166 : Index := 16#32
  ![v952.toNat, 16]
def k0_off6 (k0_t2 : Fin k0_t2_loop.trips) (c0_i32_167 : BitVec 32) : Fin 2 → Nat :=
  let c0_i32_44 : BitVec 32 := 0#32
  let c1_i32_46 : BitVec 32 := 1#32
  let arg13 : BitVec 32 := Scf.iv c0_i32_44 c1_i32_46 k0_t2
  let c32_i32_153 : BitVec 32 := 32#32
  let v933 : BitVec 32 := Scalar.muli arg13 c32_i32_153
  let v956 : BitVec 32 := Scalar.addi v933 c0_i32_167
  let c1_i32_168 : BitVec 32 := 1#32
  let v957 : BitVec 32 := Scalar.addi v956 c1_i32_168
  let v960 : Index := Scalar.indexCast v957
  let c16_171 : Index := 16#32
  ![v960.toNat, 16]
def k0_off7 (k0_t2 : Fin k0_t2_loop.trips) (c0_i32_172 : BitVec 32) : Fin 2 → Nat :=
  let c0_i32_44 : BitVec 32 := 0#32
  let c1_i32_46 : BitVec 32 := 1#32
  let arg13 : BitVec 32 := Scf.iv c0_i32_44 c1_i32_46 k0_t2
  let c32_i32_153 : BitVec 32 := 32#32
  let v933 : BitVec 32 := Scalar.muli arg13 c32_i32_153
  let v964 : BitVec 32 := Scalar.addi v933 c0_i32_172
  let v967 : Index := Scalar.indexCast v964
  let c32_175 : Index := 32#32
  ![v967.toNat, 32]
def k0_off8 (k0_t2 : Fin k0_t2_loop.trips) (c0_i32_176 : BitVec 32) : Fin 2 → Nat :=
  let c0_i32_44 : BitVec 32 := 0#32
  let c1_i32_46 : BitVec 32 := 1#32
  let arg13 : BitVec 32 := Scf.iv c0_i32_44 c1_i32_46 k0_t2
  let c32_i32_153 : BitVec 32 := 32#32
  let v933 : BitVec 32 := Scalar.muli arg13 c32_i32_153
  let v971 : BitVec 32 := Scalar.addi v933 c0_i32_176
  let c1_i32_177 : BitVec 32 := 1#32
  let v972 : BitVec 32 := Scalar.addi v971 c1_i32_177
  let v975 : Index := Scalar.indexCast v972
  let c32_180 : Index := 32#32
  ![v975.toNat, 32]
def k0_off9 (k0_t2 : Fin k0_t2_loop.trips) (c0_i32_181 : BitVec 32) : Fin 2 → Nat :=
  let c0_i32_44 : BitVec 32 := 0#32
  let c1_i32_46 : BitVec 32 := 1#32
  let arg13 : BitVec 32 := Scf.iv c0_i32_44 c1_i32_46 k0_t2
  let c32_i32_153 : BitVec 32 := 32#32
  let v933 : BitVec 32 := Scalar.muli arg13 c32_i32_153
  let v979 : BitVec 32 := Scalar.addi v933 c0_i32_181
  let v982 : Index := Scalar.indexCast v979
  let c48_184 : Index := 48#32
  ![v982.toNat, 48]
def k0_off10 (k0_t2 : Fin k0_t2_loop.trips) (c0_i32_185 : BitVec 32) : Fin 2 → Nat :=
  let c0_i32_44 : BitVec 32 := 0#32
  let c1_i32_46 : BitVec 32 := 1#32
  let arg13 : BitVec 32 := Scf.iv c0_i32_44 c1_i32_46 k0_t2
  let c32_i32_153 : BitVec 32 := 32#32
  let v933 : BitVec 32 := Scalar.muli arg13 c32_i32_153
  let v986 : BitVec 32 := Scalar.addi v933 c0_i32_185
  let c1_i32_186 : BitVec 32 := 1#32
  let v987 : BitVec 32 := Scalar.addi v986 c1_i32_186
  let v990 : Index := Scalar.indexCast v987
  let c48_189 : Index := 48#32
  ![v990.toNat, 48]
def k0_off11 (i : grid0.Coords) (k0_t1 : Fin k0_t1_loop.trips) (c0_i32_29 : BitVec 32) (c0_i32_48 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v603 : BitVec 32 := Scalar.muli v1 c25600_i32
  let c4_i32 : BitVec 32 := 4#32
  let c0_i32_26 : BitVec 32 := 0#32
  let c1_i32_27 : BitVec 32 := 1#32
  let arg12 : BitVec 32 := Scf.iv c0_i32_26 c1_i32_27 k0_t1
  let v625 : BitVec 32 := Scalar.muli c4_i32 arg12
  let v626 : BitVec 32 := Scalar.addi v625 c0_i32_29
  let c128_i32 : BitVec 32 := 128#32
  let v632 : BitVec 32 := Scalar.muli v626 c128_i32
  let v633 : BitVec 32 := Scalar.addi v603 v632
  let c0_i32_36 : BitVec 32 := 0#32
  let v635 : BitVec 1 := Scalar.cmpi .sgt v633 c0_i32_36
  let v636 : BitVec 32 := Scalar.extui v635
  let c0_i32_37 : BitVec 32 := 0#32
  let v637 : BitVec 1 := Scalar.cmpi .slt v633 c0_i32_37
  let v638 : BitVec 32 := Scalar.extui v637
  let v639 : BitVec 32 := Scalar.subi v636 v638
  let c16384_i32 : BitVec 32 := 16384#32
  let c0_i32_38 : BitVec 32 := 0#32
  let v640 : BitVec 1 := Scalar.cmpi .sgt c16384_i32 c0_i32_38
  let v641 : BitVec 32 := Scalar.extui v640
  let c0_i32_39 : BitVec 32 := 0#32
  let v642 : BitVec 1 := Scalar.cmpi .slt c16384_i32 c0_i32_39
  let v643 : BitVec 32 := Scalar.extui v642
  let v644 : BitVec 32 := Scalar.subi v641 v643
  let v645 : BitVec 1 := Scalar.cmpi .ne v639 v644
  let v646 : BitVec 32 := Scalar.remsi v633 c16384_i32
  let c0_i32_40 : BitVec 32 := 0#32
  let v647 : BitVec 1 := Scalar.cmpi .ne v646 c0_i32_40
  let v648 : BitVec 1 := Scalar.andi v645 v647
  let v634 : BitVec 32 := Scalar.divsi v633 c16384_i32
  let c1_i32_41 : BitVec 32 := 1#32
  let v649 : BitVec 32 := Scalar.subi v634 c1_i32_41
  let v650 : BitVec 32 := Scalar.select v648 v649 v634
  let c64_i32 : BitVec 32 := 64#32
  let v651 : BitVec 32 := Scalar.muli v650 c64_i32
  let v655 : BitVec 32 := Scalar.addi v651 c0_i32_48
  let v656 : Index := Scalar.indexCast v655
  ![v656.toNat]
def k0_cond1 (k0_t1 : Fin k0_t1_loop.trips) : BitVec 1 :=
  let c0_i32_26 : BitVec 32 := 0#32
  let c1_i32_27 : BitVec 32 := 1#32
  let arg12 : BitVec 32 := Scf.iv c0_i32_26 c1_i32_27 k0_t1
  let c49_i32 : BitVec 32 := 49#32
  let v699 : BitVec 1 := Scalar.cmpi .slt arg12 c49_i32
  let v700 : BitVec 32 := Scalar.extui v699
  let c0_i32_53 : BitVec 32 := 0#32
  let v701 : BitVec 1 := Scalar.cmpi .ne v700 c0_i32_53
  v701

def k0_off12 (k0_t1 : Fin k0_t1_loop.trips) : Fin 2 → Nat :=
  let c4_i32 : BitVec 32 := 4#32
  let c0_i32_26 : BitVec 32 := 0#32
  let c1_i32_27 : BitVec 32 := 1#32
  let arg12 : BitVec 32 := Scf.iv c0_i32_26 c1_i32_27 k0_t1
  let v625 : BitVec 32 := Scalar.muli c4_i32 arg12
  let c0_i32_29 : BitVec 32 := 0#32
  let v626 : BitVec 32 := Scalar.addi v625 c0_i32_29
  let c4_i32_153 : BitVec 32 := 4#32
  let v933 : BitVec 32 := Scalar.addi v626 c4_i32_153
  let c0_i32_157 : BitVec 32 := 0#32
  ![v933.toNat, 0]
@[reducible] def k0_t3_loop : Scf.Loop 32 :=
  let c0_i32_73 : BitVec 32 := 0#32
  let c4_i32_74 : BitVec 32 := 4#32
  let v730 : BitVec 32 := Scalar.addi c0_i32_73 c4_i32_74
  let c1_i32_75 : BitVec 32 := 1#32
  ⟨c0_i32_73, v730, c1_i32_75⟩
def k0_off13 (k0_t3 : Fin k0_t3_loop.trips) (c0_i32_154 : BitVec 32) : Fin 2 → Nat :=
  let c0_i32_73 : BitVec 32 := 0#32
  let c1_i32_75 : BitVec 32 := 1#32
  let arg13 : BitVec 32 := Scf.iv c0_i32_73 c1_i32_75 k0_t3
  let c32_i32_153 : BitVec 32 := 32#32
  let v933 : BitVec 32 := Scalar.muli arg13 c32_i32_153
  let v934 : BitVec 32 := Scalar.addi v933 c0_i32_154
  let v937 : Index := Scalar.indexCast v934
  let c0_157 : Index := 0#32
  ![v937.toNat, 0]
def k0_off14 (k0_t3 : Fin k0_t3_loop.trips) (c0_i32_158 : BitVec 32) : Fin 2 → Nat :=
  let c0_i32_73 : BitVec 32 := 0#32
  let c1_i32_75 : BitVec 32 := 1#32
  let arg13 : BitVec 32 := Scf.iv c0_i32_73 c1_i32_75 k0_t3
  let c32_i32_153 : BitVec 32 := 32#32
  let v933 : BitVec 32 := Scalar.muli arg13 c32_i32_153
  let v941 : BitVec 32 := Scalar.addi v933 c0_i32_158
  let c1_i32_159 : BitVec 32 := 1#32
  let v942 : BitVec 32 := Scalar.addi v941 c1_i32_159
  let v945 : Index := Scalar.indexCast v942
  let c0_162 : Index := 0#32
  ![v945.toNat, 0]
def k0_off15 (k0_t3 : Fin k0_t3_loop.trips) (c0_i32_163 : BitVec 32) : Fin 2 → Nat :=
  let c0_i32_73 : BitVec 32 := 0#32
  let c1_i32_75 : BitVec 32 := 1#32
  let arg13 : BitVec 32 := Scf.iv c0_i32_73 c1_i32_75 k0_t3
  let c32_i32_153 : BitVec 32 := 32#32
  let v933 : BitVec 32 := Scalar.muli arg13 c32_i32_153
  let v949 : BitVec 32 := Scalar.addi v933 c0_i32_163
  let v952 : Index := Scalar.indexCast v949
  let c16_166 : Index := 16#32
  ![v952.toNat, 16]
def k0_off16 (k0_t3 : Fin k0_t3_loop.trips) (c0_i32_167 : BitVec 32) : Fin 2 → Nat :=
  let c0_i32_73 : BitVec 32 := 0#32
  let c1_i32_75 : BitVec 32 := 1#32
  let arg13 : BitVec 32 := Scf.iv c0_i32_73 c1_i32_75 k0_t3
  let c32_i32_153 : BitVec 32 := 32#32
  let v933 : BitVec 32 := Scalar.muli arg13 c32_i32_153
  let v956 : BitVec 32 := Scalar.addi v933 c0_i32_167
  let c1_i32_168 : BitVec 32 := 1#32
  let v957 : BitVec 32 := Scalar.addi v956 c1_i32_168
  let v960 : Index := Scalar.indexCast v957
  let c16_171 : Index := 16#32
  ![v960.toNat, 16]
def k0_off17 (k0_t3 : Fin k0_t3_loop.trips) (c0_i32_172 : BitVec 32) : Fin 2 → Nat :=
  let c0_i32_73 : BitVec 32 := 0#32
  let c1_i32_75 : BitVec 32 := 1#32
  let arg13 : BitVec 32 := Scf.iv c0_i32_73 c1_i32_75 k0_t3
  let c32_i32_153 : BitVec 32 := 32#32
  let v933 : BitVec 32 := Scalar.muli arg13 c32_i32_153
  let v964 : BitVec 32 := Scalar.addi v933 c0_i32_172
  let v967 : Index := Scalar.indexCast v964
  let c32_175 : Index := 32#32
  ![v967.toNat, 32]
def k0_off18 (k0_t3 : Fin k0_t3_loop.trips) (c0_i32_176 : BitVec 32) : Fin 2 → Nat :=
  let c0_i32_73 : BitVec 32 := 0#32
  let c1_i32_75 : BitVec 32 := 1#32
  let arg13 : BitVec 32 := Scf.iv c0_i32_73 c1_i32_75 k0_t3
  let c32_i32_153 : BitVec 32 := 32#32
  let v933 : BitVec 32 := Scalar.muli arg13 c32_i32_153
  let v971 : BitVec 32 := Scalar.addi v933 c0_i32_176
  let c1_i32_177 : BitVec 32 := 1#32
  let v972 : BitVec 32 := Scalar.addi v971 c1_i32_177
  let v975 : Index := Scalar.indexCast v972
  let c32_180 : Index := 32#32
  ![v975.toNat, 32]
def k0_off19 (k0_t3 : Fin k0_t3_loop.trips) (c0_i32_181 : BitVec 32) : Fin 2 → Nat :=
  let c0_i32_73 : BitVec 32 := 0#32
  let c1_i32_75 : BitVec 32 := 1#32
  let arg13 : BitVec 32 := Scf.iv c0_i32_73 c1_i32_75 k0_t3
  let c32_i32_153 : BitVec 32 := 32#32
  let v933 : BitVec 32 := Scalar.muli arg13 c32_i32_153
  let v979 : BitVec 32 := Scalar.addi v933 c0_i32_181
  let v982 : Index := Scalar.indexCast v979
  let c48_184 : Index := 48#32
  ![v982.toNat, 48]
def k0_off20 (k0_t3 : Fin k0_t3_loop.trips) (c0_i32_185 : BitVec 32) : Fin 2 → Nat :=
  let c0_i32_73 : BitVec 32 := 0#32
  let c1_i32_75 : BitVec 32 := 1#32
  let arg13 : BitVec 32 := Scf.iv c0_i32_73 c1_i32_75 k0_t3
  let c32_i32_153 : BitVec 32 := 32#32
  let v933 : BitVec 32 := Scalar.muli arg13 c32_i32_153
  let v986 : BitVec 32 := Scalar.addi v933 c0_i32_185
  let c1_i32_186 : BitVec 32 := 1#32
  let v987 : BitVec 32 := Scalar.addi v986 c1_i32_186
  let v990 : Index := Scalar.indexCast v987
  let c48_189 : Index := 48#32
  ![v990.toNat, 48]
def k0_cond2 (k0_t1 : Fin k0_t1_loop.trips) : BitVec 1 :=
  let c0_i32_26 : BitVec 32 := 0#32
  let c1_i32_27 : BitVec 32 := 1#32
  let arg12 : BitVec 32 := Scf.iv c0_i32_26 c1_i32_27 k0_t1
  let c49_i32_85 : BitVec 32 := 49#32
  let v776 : BitVec 1 := Scalar.cmpi .slt arg12 c49_i32_85
  let v777 : BitVec 32 := Scalar.extui v776
  let c0_i32_86 : BitVec 32 := 0#32
  let v778 : BitVec 1 := Scalar.cmpi .ne v777 c0_i32_86
  v778

def k0_off21 (k0_t1 : Fin k0_t1_loop.trips) : Fin 2 → Nat :=
  let c4_i32_54 : BitVec 32 := 4#32
  let c0_i32_26 : BitVec 32 := 0#32
  let c1_i32_27 : BitVec 32 := 1#32
  let arg12 : BitVec 32 := Scf.iv c0_i32_26 c1_i32_27 k0_t1
  let v702 : BitVec 32 := Scalar.muli c4_i32_54 arg12
  let c1_i32_55 : BitVec 32 := 1#32
  let v703 : BitVec 32 := Scalar.addi v702 c1_i32_55
  let c4_i32_153 : BitVec 32 := 4#32
  let v933 : BitVec 32 := Scalar.addi v703 c4_i32_153
  let c0_i32_157 : BitVec 32 := 0#32
  ![v933.toNat, 0]
@[reducible] def k0_t4_loop : Scf.Loop 32 :=
  let c0_i32_106 : BitVec 32 := 0#32
  let c4_i32_107 : BitVec 32 := 4#32
  let v807 : BitVec 32 := Scalar.addi c0_i32_106 c4_i32_107
  let c1_i32_108 : BitVec 32 := 1#32
  ⟨c0_i32_106, v807, c1_i32_108⟩
def k0_off22 (k0_t4 : Fin k0_t4_loop.trips) (c0_i32_154 : BitVec 32) : Fin 2 → Nat :=
  let c0_i32_106 : BitVec 32 := 0#32
  let c1_i32_108 : BitVec 32 := 1#32
  let arg13 : BitVec 32 := Scf.iv c0_i32_106 c1_i32_108 k0_t4
  let c32_i32_153 : BitVec 32 := 32#32
  let v933 : BitVec 32 := Scalar.muli arg13 c32_i32_153
  let v934 : BitVec 32 := Scalar.addi v933 c0_i32_154
  let v937 : Index := Scalar.indexCast v934
  let c0_157 : Index := 0#32
  ![v937.toNat, 0]
def k0_off23 (k0_t4 : Fin k0_t4_loop.trips) (c0_i32_158 : BitVec 32) : Fin 2 → Nat :=
  let c0_i32_106 : BitVec 32 := 0#32
  let c1_i32_108 : BitVec 32 := 1#32
  let arg13 : BitVec 32 := Scf.iv c0_i32_106 c1_i32_108 k0_t4
  let c32_i32_153 : BitVec 32 := 32#32
  let v933 : BitVec 32 := Scalar.muli arg13 c32_i32_153
  let v941 : BitVec 32 := Scalar.addi v933 c0_i32_158
  let c1_i32_159 : BitVec 32 := 1#32
  let v942 : BitVec 32 := Scalar.addi v941 c1_i32_159
  let v945 : Index := Scalar.indexCast v942
  let c0_162 : Index := 0#32
  ![v945.toNat, 0]
def k0_off24 (k0_t4 : Fin k0_t4_loop.trips) (c0_i32_163 : BitVec 32) : Fin 2 → Nat :=
  let c0_i32_106 : BitVec 32 := 0#32
  let c1_i32_108 : BitVec 32 := 1#32
  let arg13 : BitVec 32 := Scf.iv c0_i32_106 c1_i32_108 k0_t4
  let c32_i32_153 : BitVec 32 := 32#32
  let v933 : BitVec 32 := Scalar.muli arg13 c32_i32_153
  let v949 : BitVec 32 := Scalar.addi v933 c0_i32_163
  let v952 : Index := Scalar.indexCast v949
  let c16_166 : Index := 16#32
  ![v952.toNat, 16]
def k0_off25 (k0_t4 : Fin k0_t4_loop.trips) (c0_i32_167 : BitVec 32) : Fin 2 → Nat :=
  let c0_i32_106 : BitVec 32 := 0#32
  let c1_i32_108 : BitVec 32 := 1#32
  let arg13 : BitVec 32 := Scf.iv c0_i32_106 c1_i32_108 k0_t4
  let c32_i32_153 : BitVec 32 := 32#32
  let v933 : BitVec 32 := Scalar.muli arg13 c32_i32_153
  let v956 : BitVec 32 := Scalar.addi v933 c0_i32_167
  let c1_i32_168 : BitVec 32 := 1#32
  let v957 : BitVec 32 := Scalar.addi v956 c1_i32_168
  let v960 : Index := Scalar.indexCast v957
  let c16_171 : Index := 16#32
  ![v960.toNat, 16]
def k0_off26 (k0_t4 : Fin k0_t4_loop.trips) (c0_i32_172 : BitVec 32) : Fin 2 → Nat :=
  let c0_i32_106 : BitVec 32 := 0#32
  let c1_i32_108 : BitVec 32 := 1#32
  let arg13 : BitVec 32 := Scf.iv c0_i32_106 c1_i32_108 k0_t4
  let c32_i32_153 : BitVec 32 := 32#32
  let v933 : BitVec 32 := Scalar.muli arg13 c32_i32_153
  let v964 : BitVec 32 := Scalar.addi v933 c0_i32_172
  let v967 : Index := Scalar.indexCast v964
  let c32_175 : Index := 32#32
  ![v967.toNat, 32]
def k0_off27 (k0_t4 : Fin k0_t4_loop.trips) (c0_i32_176 : BitVec 32) : Fin 2 → Nat :=
  let c0_i32_106 : BitVec 32 := 0#32
  let c1_i32_108 : BitVec 32 := 1#32
  let arg13 : BitVec 32 := Scf.iv c0_i32_106 c1_i32_108 k0_t4
  let c32_i32_153 : BitVec 32 := 32#32
  let v933 : BitVec 32 := Scalar.muli arg13 c32_i32_153
  let v971 : BitVec 32 := Scalar.addi v933 c0_i32_176
  let c1_i32_177 : BitVec 32 := 1#32
  let v972 : BitVec 32 := Scalar.addi v971 c1_i32_177
  let v975 : Index := Scalar.indexCast v972
  let c32_180 : Index := 32#32
  ![v975.toNat, 32]
def k0_off28 (k0_t4 : Fin k0_t4_loop.trips) (c0_i32_181 : BitVec 32) : Fin 2 → Nat :=
  let c0_i32_106 : BitVec 32 := 0#32
  let c1_i32_108 : BitVec 32 := 1#32
  let arg13 : BitVec 32 := Scf.iv c0_i32_106 c1_i32_108 k0_t4
  let c32_i32_153 : BitVec 32 := 32#32
  let v933 : BitVec 32 := Scalar.muli arg13 c32_i32_153
  let v979 : BitVec 32 := Scalar.addi v933 c0_i32_181
  let v982 : Index := Scalar.indexCast v979
  let c48_184 : Index := 48#32
  ![v982.toNat, 48]
def k0_off29 (k0_t4 : Fin k0_t4_loop.trips) (c0_i32_185 : BitVec 32) : Fin 2 → Nat :=
  let c0_i32_106 : BitVec 32 := 0#32
  let c1_i32_108 : BitVec 32 := 1#32
  let arg13 : BitVec 32 := Scf.iv c0_i32_106 c1_i32_108 k0_t4
  let c32_i32_153 : BitVec 32 := 32#32
  let v933 : BitVec 32 := Scalar.muli arg13 c32_i32_153
  let v986 : BitVec 32 := Scalar.addi v933 c0_i32_185
  let c1_i32_186 : BitVec 32 := 1#32
  let v987 : BitVec 32 := Scalar.addi v986 c1_i32_186
  let v990 : Index := Scalar.indexCast v987
  let c48_189 : Index := 48#32
  ![v990.toNat, 48]
def k0_cond3 (k0_t1 : Fin k0_t1_loop.trips) : BitVec 1 :=
  let c0_i32_26 : BitVec 32 := 0#32
  let c1_i32_27 : BitVec 32 := 1#32
  let arg12 : BitVec 32 := Scf.iv c0_i32_26 c1_i32_27 k0_t1
  let c49_i32_118 : BitVec 32 := 49#32
  let v853 : BitVec 1 := Scalar.cmpi .slt arg12 c49_i32_118
  let v854 : BitVec 32 := Scalar.extui v853
  let c0_i32_119 : BitVec 32 := 0#32
  let v855 : BitVec 1 := Scalar.cmpi .ne v854 c0_i32_119
  v855

def k0_off30 (k0_t1 : Fin k0_t1_loop.trips) : Fin 2 → Nat :=
  let c4_i32_87 : BitVec 32 := 4#32
  let c0_i32_26 : BitVec 32 := 0#32
  let c1_i32_27 : BitVec 32 := 1#32
  let arg12 : BitVec 32 := Scf.iv c0_i32_26 c1_i32_27 k0_t1
  let v779 : BitVec 32 := Scalar.muli c4_i32_87 arg12
  let c2_i32_88 : BitVec 32 := 2#32
  let v780 : BitVec 32 := Scalar.addi v779 c2_i32_88
  let c4_i32_153 : BitVec 32 := 4#32
  let v933 : BitVec 32 := Scalar.addi v780 c4_i32_153
  let c0_i32_157 : BitVec 32 := 0#32
  ![v933.toNat, 0]
@[reducible] def k0_t5_loop : Scf.Loop 32 :=
  let c0_i32_139 : BitVec 32 := 0#32
  let c4_i32_140 : BitVec 32 := 4#32
  let v884 : BitVec 32 := Scalar.addi c0_i32_139 c4_i32_140
  let c1_i32_141 : BitVec 32 := 1#32
  ⟨c0_i32_139, v884, c1_i32_141⟩
def k0_off31 (k0_t5 : Fin k0_t5_loop.trips) (c0_i32_154 : BitVec 32) : Fin 2 → Nat :=
  let c0_i32_139 : BitVec 32 := 0#32
  let c1_i32_141 : BitVec 32 := 1#32
  let arg13 : BitVec 32 := Scf.iv c0_i32_139 c1_i32_141 k0_t5
  let c32_i32_153 : BitVec 32 := 32#32
  let v933 : BitVec 32 := Scalar.muli arg13 c32_i32_153
  let v934 : BitVec 32 := Scalar.addi v933 c0_i32_154
  let v937 : Index := Scalar.indexCast v934
  let c0_157 : Index := 0#32
  ![v937.toNat, 0]
def k0_off32 (k0_t5 : Fin k0_t5_loop.trips) (c0_i32_158 : BitVec 32) : Fin 2 → Nat :=
  let c0_i32_139 : BitVec 32 := 0#32
  let c1_i32_141 : BitVec 32 := 1#32
  let arg13 : BitVec 32 := Scf.iv c0_i32_139 c1_i32_141 k0_t5
  let c32_i32_153 : BitVec 32 := 32#32
  let v933 : BitVec 32 := Scalar.muli arg13 c32_i32_153
  let v941 : BitVec 32 := Scalar.addi v933 c0_i32_158
  let c1_i32_159 : BitVec 32 := 1#32
  let v942 : BitVec 32 := Scalar.addi v941 c1_i32_159
  let v945 : Index := Scalar.indexCast v942
  let c0_162 : Index := 0#32
  ![v945.toNat, 0]
def k0_off33 (k0_t5 : Fin k0_t5_loop.trips) (c0_i32_163 : BitVec 32) : Fin 2 → Nat :=
  let c0_i32_139 : BitVec 32 := 0#32
  let c1_i32_141 : BitVec 32 := 1#32
  let arg13 : BitVec 32 := Scf.iv c0_i32_139 c1_i32_141 k0_t5
  let c32_i32_153 : BitVec 32 := 32#32
  let v933 : BitVec 32 := Scalar.muli arg13 c32_i32_153
  let v949 : BitVec 32 := Scalar.addi v933 c0_i32_163
  let v952 : Index := Scalar.indexCast v949
  let c16_166 : Index := 16#32
  ![v952.toNat, 16]
def k0_off34 (k0_t5 : Fin k0_t5_loop.trips) (c0_i32_167 : BitVec 32) : Fin 2 → Nat :=
  let c0_i32_139 : BitVec 32 := 0#32
  let c1_i32_141 : BitVec 32 := 1#32
  let arg13 : BitVec 32 := Scf.iv c0_i32_139 c1_i32_141 k0_t5
  let c32_i32_153 : BitVec 32 := 32#32
  let v933 : BitVec 32 := Scalar.muli arg13 c32_i32_153
  let v956 : BitVec 32 := Scalar.addi v933 c0_i32_167
  let c1_i32_168 : BitVec 32 := 1#32
  let v957 : BitVec 32 := Scalar.addi v956 c1_i32_168
  let v960 : Index := Scalar.indexCast v957
  let c16_171 : Index := 16#32
  ![v960.toNat, 16]
def k0_off35 (k0_t5 : Fin k0_t5_loop.trips) (c0_i32_172 : BitVec 32) : Fin 2 → Nat :=
  let c0_i32_139 : BitVec 32 := 0#32
  let c1_i32_141 : BitVec 32 := 1#32
  let arg13 : BitVec 32 := Scf.iv c0_i32_139 c1_i32_141 k0_t5
  let c32_i32_153 : BitVec 32 := 32#32
  let v933 : BitVec 32 := Scalar.muli arg13 c32_i32_153
  let v964 : BitVec 32 := Scalar.addi v933 c0_i32_172
  let v967 : Index := Scalar.indexCast v964
  let c32_175 : Index := 32#32
  ![v967.toNat, 32]
def k0_off36 (k0_t5 : Fin k0_t5_loop.trips) (c0_i32_176 : BitVec 32) : Fin 2 → Nat :=
  let c0_i32_139 : BitVec 32 := 0#32
  let c1_i32_141 : BitVec 32 := 1#32
  let arg13 : BitVec 32 := Scf.iv c0_i32_139 c1_i32_141 k0_t5
  let c32_i32_153 : BitVec 32 := 32#32
  let v933 : BitVec 32 := Scalar.muli arg13 c32_i32_153
  let v971 : BitVec 32 := Scalar.addi v933 c0_i32_176
  let c1_i32_177 : BitVec 32 := 1#32
  let v972 : BitVec 32 := Scalar.addi v971 c1_i32_177
  let v975 : Index := Scalar.indexCast v972
  let c32_180 : Index := 32#32
  ![v975.toNat, 32]
def k0_off37 (k0_t5 : Fin k0_t5_loop.trips) (c0_i32_181 : BitVec 32) : Fin 2 → Nat :=
  let c0_i32_139 : BitVec 32 := 0#32
  let c1_i32_141 : BitVec 32 := 1#32
  let arg13 : BitVec 32 := Scf.iv c0_i32_139 c1_i32_141 k0_t5
  let c32_i32_153 : BitVec 32 := 32#32
  let v933 : BitVec 32 := Scalar.muli arg13 c32_i32_153
  let v979 : BitVec 32 := Scalar.addi v933 c0_i32_181
  let v982 : Index := Scalar.indexCast v979
  let c48_184 : Index := 48#32
  ![v982.toNat, 48]
def k0_off38 (k0_t5 : Fin k0_t5_loop.trips) (c0_i32_185 : BitVec 32) : Fin 2 → Nat :=
  let c0_i32_139 : BitVec 32 := 0#32
  let c1_i32_141 : BitVec 32 := 1#32
  let arg13 : BitVec 32 := Scf.iv c0_i32_139 c1_i32_141 k0_t5
  let c32_i32_153 : BitVec 32 := 32#32
  let v933 : BitVec 32 := Scalar.muli arg13 c32_i32_153
  let v986 : BitVec 32 := Scalar.addi v933 c0_i32_185
  let c1_i32_186 : BitVec 32 := 1#32
  let v987 : BitVec 32 := Scalar.addi v986 c1_i32_186
  let v990 : Index := Scalar.indexCast v987
  let c48_189 : Index := 48#32
  ![v990.toNat, 48]
def k0_cond4 (k0_t1 : Fin k0_t1_loop.trips) : BitVec 1 :=
  let c0_i32_26 : BitVec 32 := 0#32
  let c1_i32_27 : BitVec 32 := 1#32
  let arg12 : BitVec 32 := Scf.iv c0_i32_26 c1_i32_27 k0_t1
  let c49_i32_151 : BitVec 32 := 49#32
  let v930 : BitVec 1 := Scalar.cmpi .slt arg12 c49_i32_151
  let v931 : BitVec 32 := Scalar.extui v930
  let c0_i32_152 : BitVec 32 := 0#32
  let v932 : BitVec 1 := Scalar.cmpi .ne v931 c0_i32_152
  v932

def k0_off39 (k0_t1 : Fin k0_t1_loop.trips) : Fin 2 → Nat :=
  let c4_i32_120 : BitVec 32 := 4#32
  let c0_i32_26 : BitVec 32 := 0#32
  let c1_i32_27 : BitVec 32 := 1#32
  let arg12 : BitVec 32 := Scf.iv c0_i32_26 c1_i32_27 k0_t1
  let v856 : BitVec 32 := Scalar.muli c4_i32_120 arg12
  let c3_i32_121 : BitVec 32 := 3#32
  let v857 : BitVec 32 := Scalar.addi v856 c3_i32_121
  let c4_i32_153 : BitVec 32 := 4#32
  let v933 : BitVec 32 := Scalar.addi v857 c4_i32_153
  let c0_i32_157 : BitVec 32 := 0#32
  ![v933.toNat, 0]
def k0_off40 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_29_r1 : BitVec 32 := 0#32
  ![v1.toNat, 0]
abbrev grid1 : Pipeline.Grid := ⟨1, ![7], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S32x50x64 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S64x16384 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x16384 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S50x16384 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384x50 : Shape := ⟨2, ![16384, 50]⟩
abbrev S100000x64 : Shape := ⟨2, ![100000, 64]⟩
abbrev S100000 : Shape := ⟨1, ![100000]⟩
abbrev S_ : Shape := ⟨0, ![]⟩
abbrev S16384x50x1 : Shape := ⟨3, ![16384, 50, 1]⟩
abbrev S1 : Shape := ⟨1, ![1]⟩
abbrev S1x1x1 : Shape := ⟨3, ![1, 1, 1]⟩
abbrev S16384x50x64 : Shape := ⟨3, ![16384, 50, 64]⟩
abbrev S50x64 : Shape := ⟨2, ![50, 64]⟩
abbrev S64x100000 : Shape := ⟨2, ![64, 100000]⟩
abbrev S50x100000 : Shape := ⟨2, ![50, 100000]⟩
abbrev S1x100000 : Shape := ⟨2, ![1, 100000]⟩

abbrev nBuf : Space → Nat
  | .hbm => 49
  | .vmem => 0
  | .smem => 0
  | _ => 0

abbrev bufTy : (tb : Table) → Fin (tcTables nBuf tb) → BufTy
  | .hbm, ⟨0, _⟩ => ⟨S16384x50, .i32⟩
  | .hbm, ⟨1, _⟩ => ⟨S100000x64, .f32⟩
  | .hbm, ⟨2, _⟩ => ⟨S100000x64, .f32⟩
  | .hbm, ⟨3, _⟩ => ⟨S100000, .f32⟩
  | .hbm, ⟨4, _⟩ => ⟨S_, .i32⟩
  | .hbm, ⟨5, _⟩ => ⟨S16384x50, .i32⟩
  | .hbm, ⟨6, _⟩ => ⟨S16384x50, .i1⟩
  | .hbm, ⟨7, _⟩ => ⟨S_, .i32⟩
  | .hbm, ⟨8, _⟩ => ⟨S16384x50, .i32⟩
  | .hbm, ⟨9, _⟩ => ⟨S16384x50, .i32⟩
  | .hbm, ⟨10, _⟩ => ⟨S16384x50, .i32⟩
  | .hbm, ⟨11, _⟩ => ⟨S16384x50x1, .i32⟩
  | .hbm, ⟨12, _⟩ => ⟨S1, .i32⟩
  | .hbm, ⟨13, _⟩ => ⟨S_, .i32⟩
  | .hbm, ⟨14, _⟩ => ⟨S16384x50x1, .i32⟩
  | .hbm, ⟨15, _⟩ => ⟨S16384x50x1, .i1⟩
  | .hbm, ⟨16, _⟩ => ⟨S1x1x1, .i32⟩
  | .hbm, ⟨17, _⟩ => ⟨S16384x50x1, .i32⟩
  | .hbm, ⟨18, _⟩ => ⟨S16384x50x1, .i1⟩
  | .hbm, ⟨19, _⟩ => ⟨S16384x50x1, .i1⟩
  | .hbm, ⟨20, _⟩ => ⟨S_, .i1⟩
  | .hbm, ⟨21, _⟩ => ⟨S16384x50, .i1⟩
  | .hbm, ⟨22, _⟩ => ⟨S16384x50x64, .f32⟩
  | .hbm, ⟨23, _⟩ => ⟨S16384x50x64, .i1⟩
  | .hbm, ⟨24, _⟩ => ⟨S_, .f32⟩
  | .hbm, ⟨25, _⟩ => ⟨S16384x50x64, .f32⟩
  | .hbm, ⟨26, _⟩ => ⟨S16384x50x64, .f32⟩
  | .hbm, ⟨27, _⟩ => ⟨S_, .f32⟩
  | .hbm, ⟨28, _⟩ => ⟨S50x64, .f32⟩
  | .hbm, ⟨29, _⟩ => ⟨S64x100000, .f32⟩
  | .hbm, ⟨30, _⟩ => ⟨S50x100000, .f32⟩
  | .hbm, ⟨31, _⟩ => ⟨S1x100000, .f32⟩
  | .hbm, ⟨32, _⟩ => ⟨S50x100000, .f32⟩
  | .hbm, ⟨33, _⟩ => ⟨S50x100000, .f32⟩
  | .hbm, ⟨34, _⟩ => ⟨S_, .f32⟩
  | .hbm, ⟨35, _⟩ => ⟨S100000, .f32⟩
  | .hbm, ⟨36, _⟩ => ⟨S_, .f32⟩
  | .hbm, ⟨37, _⟩ => ⟨S100000, .f32⟩
  | .hbm, ⟨38, _⟩ => ⟨S100000, .f32⟩
  | .hbm, ⟨39, _⟩ => ⟨S1x100000, .f32⟩
  | .hbm, ⟨40, _⟩ => ⟨S50x100000, .f32⟩
  | .hbm, ⟨41, _⟩ => ⟨S50x100000, .f32⟩
  | .hbm, ⟨42, _⟩ => ⟨S50x100000, .f32⟩
  | .hbm, ⟨43, _⟩ => ⟨S_, .f32⟩
  | .hbm, ⟨44, _⟩ => ⟨S100000, .f32⟩
  | .hbm, ⟨45, _⟩ => ⟨S1x100000, .f32⟩
  | .hbm, ⟨46, _⟩ => ⟨S1x100000, .f32⟩
  | .hbm, ⟨47, _⟩ => ⟨S50x100000, .f32⟩
  | .hbm, ⟨48, _⟩ => ⟨S50x100000, .f32⟩
  | _, _ => ⟨S16384x50, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v0 : Ref sig .tc := ⟨.hbm, 26, rfl⟩
abbrev main_cst : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_call1_cst : Ref sig .tc := ⟨.hbm, 34, rfl⟩
abbrev main_call1_v0 : Ref sig .tc := ⟨.hbm, 35, rfl⟩
abbrev main_call1_cst_0 : Ref sig .tc := ⟨.hbm, 36, rfl⟩
abbrev main_call1_v1 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_call1_v5 : Ref sig .tc := ⟨.hbm, 41, rfl⟩
abbrev main_call1_v6 : Ref sig .tc := ⟨.hbm, 42, rfl⟩
abbrev main_call1_cst_1 : Ref sig .tc := ⟨.hbm, 43, rfl⟩
abbrev main_call1_v7 : Ref sig .tc := ⟨.hbm, 44, rfl⟩
abbrev main_call1_v8 : Ref sig .tc := ⟨.hbm, 45, rfl⟩
abbrev main_call1_v9 : Ref sig .tc := ⟨.hbm, 46, rfl⟩
abbrev main_call1_v10 : Ref sig .tc := ⟨.hbm, 47, rfl⟩
abbrev main_v7 : Ref sig .tc := ⟨.hbm, 48, rfl⟩

abbrev nD : Nat := 1
abbrev τ : Topo := Topo.v7x

variable {F : FTy → Type} [FloatOps F]
-- ==== Proof.Tile.lean ====
/-
  The SparseCore kernel's text, folded. The printed function spells out two hundred zero stores, four copies of one
  step per trip, and in each step a loop body of a hundred and twenty-eight row loads. Here each repetition is
  written once (`zeros`, `chunk`, `rowPair`), and the printed function is shown to be the folded one
  (`kernel_eq`), so that each is reasoned about once.
-/
module

public import proofs.«01_k».proof.Proof.Gen.KernelIdeal

@[expose] public section

noncomputable section

namespace Cert.Proof.Tile

universe v

open Cert.KernelIdeal Cert.KernelIdeal.Gen
open Idealize.ShloMosaic Idealize.SL.Sem

variable {F : FTy → Type} [FloatOps F]

/-- The effects of a tile's program at the coordinates `i` of the grid. -/
abbrev Eff (i : grid0.Coords) : Type → Type _ := TpuEff nD τ sig (Elt F) Λ₀ (.scVector ((i 0).castLE hcore0) ((i 1).castLE hsub0))

/-- Sixteen lanes; eight running sums (the four lane groups of even rows, then those of odd rows). -/
abbrev V16 : Type := FVec F S16 .f32
abbrev A8 : Type := V16 (F := F) × V16 (F := F) × V16 (F := F) × V16 (F := F) × V16 (F := F) × V16 (F := F) × V16 (F := F) × V16 (F := F)

/-- The loop trips of a chunk. -/
abbrev KK : Type := Fin k0_t2_loop.trips

section Folded
variable (i : grid0.Coords)

/-- One load of sixteen lanes of one row of a slab. -/
def ldRow (v : Memref sig .scVector .vmem S128x128 .f32) (o : Fin 2 → Nat) (h : ∀ a, o a + S1x16.size a ≤ S128x128.size a) :
    Prog (Eff (F := F) i) (V16 (F := F)) := do
  let x : Vec F S1x16 .f32 ← Prog.lift (.load v (Rect.unit (s := S128x128) o S1x16.size h).toLoadRect (View.loadsAt_vmem Facts₀.h_S1x16))
  pure (shapeCast S16 x Facts₀.shapeCasts_S1x16_S16)

/-- Two rows of a slab added into the eight running sums. -/
def rowPair (v : Memref sig .scVector .vmem S128x128 .f32) (k : KK) (j : Fin 16) (A : A8 (F := F)) : Prog (Eff (F := F) i) (A8 (F := F)) := do
  let x0 ← ldRow i v (k0_off3 k (BitVec.ofNat 32 (2 * j.val))) (Facts₀.k0_off3_inb k j)
  let x4 ← ldRow i v (k0_off4 k (BitVec.ofNat 32 (2 * j.val))) (Facts₀.k0_off4_inb k j)
  let x1 ← ldRow i v (k0_off5 k (BitVec.ofNat 32 (2 * j.val))) (Facts₀.k0_off5_inb k j)
  let x5 ← ldRow i v (k0_off6 k (BitVec.ofNat 32 (2 * j.val))) (Facts₀.k0_off6_inb k j)
  let x2 ← ldRow i v (k0_off7 k (BitVec.ofNat 32 (2 * j.val))) (Facts₀.k0_off7_inb k j)
  let x6 ← ldRow i v (k0_off8 k (BitVec.ofNat 32 (2 * j.val))) (Facts₀.k0_off8_inb k j)
  let x3 ← ldRow i v (k0_off9 k (BitVec.ofNat 32 (2 * j.val))) (Facts₀.k0_off9_inb k j)
  let x7 ← ldRow i v (k0_off10 k (BitVec.ofNat 32 (2 * j.val))) (Facts₀.k0_off10_inb k j)
  match A with
  | (a0, a1, a2, a3, a4, a5, a6, a7) =>
    pure (addf a0 x0, addf a1 x1, addf a2 x2, addf a3 x3, addf a4 x4, addf a5 x5, addf a6 x6, addf a7 x7)

/-- The last `n` of a trip's sixteen pairs of rows. -/
def rowPairs (v : Memref sig .scVector .vmem S128x128 .f32) (k : KK) : (n : ℕ) → n ≤ 16 → A8 (F := F) → Prog (Eff (F := F) i) (A8 (F := F))
  | 0, _, A => pure A
  | n + 1, h, A => rowPair i v k ⟨15 - n, by omega⟩ A >>= rowPairs v k n (by omega)

/-- A trip of a chunk's loop: thirty-two rows added into the eight running sums. -/
def trip (v : Memref sig .scVector .vmem S128x128 .f32) (k : KK) (A : A8 (F := F)) : Prog (Eff (F := F) i) (A8 (F := F)) :=
  rowPairs i v k 16 (Nat.le_refl _) A

/-- The chunk's loop over its four trips, from zero sums. -/
def chunkSum (v : Memref sig .scVector .vmem S128x128 .f32) : Prog (Eff (F := F) i) (A8 (F := F)) :=
  have z : V16 (F := F) := broadcast S16 (Scalar.ofBits .f32 0x00000000#32)
  Scf.Loop.for k0_t2_loop Facts₀.k0_t2_ok (z, z, z, z, z, z, z, z) fun k A => trip i v k A

/-- Sixteen lanes of the accumulator brought up by a sum `x`. -/
def accAdd (acc : Memref sig .scVector .vmem S3200 .f32) (o : Fin 1 → Nat) (h : ∀ a, o a + S16.size a ≤ S3200.size a) (x y : V16 (F := F)) :
    Prog (Eff (F := F) i) PUnit := do
  let u : Vec F S16 .f32 ← Prog.lift (.load acc (Rect.unit (s := S3200) o S16.size h).toLoadRect (View.loadsAt_vmem Facts₀.h_S16))
  let _w : Vec F S16 .f32 ← Prog.lift (.load acc (Rect.unit (s := S3200) o S16.size h).toLoadRect (View.loadsAt_vmem Facts₀.h_S16))
  Prog.lift (.store acc (Rect.unit (s := S3200) o S16.size h)
    (shapeCast S16 (addf (shapeCast S16 u Facts₀.shapeCasts_S16_S16) (addf x y)) Facts₀.shapeCasts_S16_S16) Finset.univ (View.stores_vmem_bits_univ Facts₀.h_S16 rfl) (.inl rfl))

/-- Row `o` of the index buffer, as a list of 128 row numbers; the table whole, as a gather's source. -/
abbrev idxRow (idx : Memref sig .scVector .vmem S200x128 .i32) (o : Fin 2 → Nat) (h : ∀ a, o a + S1x128.size a ≤ S200x128.size a) : Memref sig .scVector .vmem S128 .i32 :=
  (idx.slice (Rect.unit (s := S200x128) o S1x128.size h) (fun _ => rfl)).squeeze S128 Facts₀.squeezes_S1x128_S128
abbrev tabAll (tab : Memref sig .scVector .hbm S100000x128 .f32) : Memref sig .scVector .hbm S100000x128 .f32 :=
  tab.slice (Rect.unit (s := S100000x128) ![0, 0] S100000x128.size Facts₀.inb_S100000x128_S100000x128_0_0) (fun _ => rfl)

/-- The gather of 128 rows of the table into a slab: its issue and its wait. -/
def start (tab : Memref sig .scVector .hbm S100000x128 .f32) (v : Memref sig .scVector .vmem S128x128 .f32) (l : Memref sig .scVector .vmem S128 .i32) (sm : DmaSem sig) :
    Prog (Eff (F := F) i) PUnit :=
  SparseCore.enqueueIndirectGather rfl (tabAll tab) v Facts₀.gathers_S100000x128_S128x128 l rfl sm (View.wordExact_bits rfl) rfl (Or.inl rfl)
def await (tab : Memref sig .scVector .hbm S100000x128 .f32) (v : Memref sig .scVector .vmem S128x128 .f32) (hv : v.view.WordExact) (sm : DmaSem sig) :
    Prog (Eff (F := F) i) PUnit :=
  SparseCore.waitIndirectGather sm (tabAll tab) v (View.wordExact_bits rfl) hv

/-- The slab of the row buffer at `b`. -/
abbrev slab (rows : Memref sig .scVector .vmem S4x128x128 .f32) (b : ℕ) (h : ∀ a, (![b, 0, 0] : Fin 3 → ℕ) a + S1x128x128.size a ≤ S4x128x128.size a) : Memref sig .scVector .vmem S128x128 .f32 :=
  (rows.slice (Rect.unit (s := S4x128x128) ![b, 0, 0] S1x128x128.size h) (fun _ => rfl)).squeeze S128x128 Facts₀.squeezes_S1x128x128_S128x128

/-- One chunk: wait for its rows, sum them, add the sum into the accumulator at the chunk's list position, and issue
    the gather of the chunk four on while there is one. -/
def chunk (tab : Memref sig .scVector .hbm S100000x128 .f32) (idx : Memref sig .scVector .vmem S200x128 .i32) (acc : Memref sig .scVector .vmem S3200 .f32)
    (v : Memref sig .scVector .vmem S128x128 .f32) (hv : v.view.WordExact) (sm : DmaSem sig) (t : Fin k0_t1_loop.trips) (b : Fin 4)
    (cond : BitVec 1) (o : Fin 2 → Nat) (ho : cond = 1#1 → ∀ a, o a + S1x128.size a ≤ S200x128.size a) :
    Prog (Eff (F := F) i) PUnit := do
  await i tab v hv sm
  let (a0, a1, a2, a3, a4, a5, a6, a7) ← chunkSum i v
  accAdd i acc (k0_off11 i t (BitVec.ofNat 32 b.val) 0#32) (Facts₀.k0_off11_inb i t b 0) a0 a4
  accAdd i acc (k0_off11 i t (BitVec.ofNat 32 b.val) 16#32) (Facts₀.k0_off11_inb i t b 1) a1 a5
  accAdd i acc (k0_off11 i t (BitVec.ofNat 32 b.val) 32#32) (Facts₀.k0_off11_inb i t b 2) a2 a6
  accAdd i acc (k0_off11 i t (BitVec.ofNat 32 b.val) 48#32) (Facts₀.k0_off11_inb i t b 3) a3 a7
  if h : cond = 1#1 then do
    start i tab v (idxRow idx o (ho h)) sm
    pure ⟨⟩
  else do
    pure ⟨⟩

/-- The last `n` of the accumulator's two hundred zero stores. -/
def zeros (acc : Memref sig .scVector .vmem S3200 .f32) : (n : ℕ) → n ≤ 200 → Prog (Eff (F := F) i) PUnit
  | 0, _ => pure ⟨⟩
  | n + 1, h => do
    let _w : Vec F S16 .f32 ← Prog.lift (.load acc (Rect.unit (s := S3200) ![16 * (199 - n)] S16.size (by intro a; fin_cases a; show 16 * (199 - n) + 16 ≤ 3200; omega)).toLoadRect (View.loadsAt_vmem Facts₀.h_S16))
    Prog.lift (.store acc (Rect.unit (s := S3200) ![16 * (199 - n)] S16.size (by intro a; fin_cases a; show 16 * (199 - n) + 16 ≤ 3200; omega))
      (shapeCast S16 (broadcast S16 (Scalar.ofBits .f32 0x00000000#32)) Facts₀.shapeCasts_S16_S16) Finset.univ (View.stores_vmem_bits_univ Facts₀.h_S16 rfl) (.inl rfl))
    zeros acc n (by omega)

/-- The tile's row of the index array, and its row of the partial sums. -/
abbrev idxSrc (src : Memref sig .scVector .hbm S32x200x128 .i32) : Memref sig .scVector .hbm S200x128 .i32 :=
  (src.slice (Rect.unit (s := S32x200x128) (k0_off1 i) S1x200x128.size (Facts₀.k0_off1_inb i)) (fun _ => rfl)).squeeze S200x128 Facts₀.squeezes_S1x200x128_S200x128
abbrev outDst (out : Memref sig .scVector .hbm S32x3200 .f32) : Memref sig .scVector .hbm S3200 .f32 :=
  (out.slice (Rect.unit (s := S32x3200) (k0_off40 i) S1x3200.size (Facts₀.k0_off40_inb i)) (fun _ => rfl)).squeeze S3200 Facts₀.squeezes_S1x3200_S3200

/-- A trip of the outer loop: four chunks, one per slab. -/
def outer (tab : Memref sig .scVector .hbm S100000x128 .f32) (idx : Memref sig .scVector .vmem S200x128 .i32) (rows : Memref sig .scVector .vmem S4x128x128 .f32)
    (acc : Memref sig .scVector .vmem S3200 .f32) (t : Fin k0_t1_loop.trips) : Prog (Eff (F := F) i) PUnit := do
  chunk i tab idx acc (slab rows 0 Facts₀.inb_S4x128x128_S1x128x128_0_0_0) ((View.wordExact_bits rfl).reshape _ _) cc0_scratch3.sem t 0 (k0_cond1 t) (k0_off12 t) (Facts₀.k0_off12_inb t)
  chunk i tab idx acc (slab rows 1 Facts₀.inb_S4x128x128_S1x128x128_1_0_0) ((View.wordExact_bits rfl).reshape _ _) cc0_scratch4.sem t 1 (k0_cond2 t) (k0_off21 t) (Facts₀.k0_off21_inb t)
  chunk i tab idx acc (slab rows 2 Facts₀.inb_S4x128x128_S1x128x128_2_0_0) ((View.wordExact_bits rfl).reshape _ _) cc0_scratch5.sem t 2 (k0_cond3 t) (k0_off30 t) (Facts₀.k0_off30_inb t)
  chunk i tab idx acc (slab rows 3 Facts₀.inb_S4x128x128_S1x128x128_3_0_0) ((View.wordExact_bits rfl).reshape _ _) cc0_scratch6.sem t 3 (k0_cond4 t) (k0_off39 t) (Facts₀.k0_off39_inb t)
  pure ⟨⟩

/-- The whole of a tile's program, its outer loop's body a parameter. -/
def kernWith (src : Memref sig .scVector .hbm S32x200x128 .i32) (tab : Memref sig .scVector .hbm S100000x128 .f32) (out : Memref sig .scVector .hbm S32x3200 .f32)
    (idx : Memref sig .scVector .vmem S200x128 .i32) (hidx : idx.IsWhole) (rows : Memref sig .scVector .vmem S4x128x128 .f32) (acc : Memref sig .scVector .vmem S3200 .f32) (hacc : acc.IsWhole)
    (body : Fin k0_t1_loop.trips → PUnit → Prog (Eff (F := F) i) PUnit) :
    Prog (Eff (F := F) i) PUnit := do
  Prog.lift (.enqueueDma (idxSrc i src) (.here idx) (.dma cc0_scoped0.sem) ((View.wordExact_bits rfl).reshape _ _) hidx.wordExact ⟨Or.inl rfl, trivial⟩)
  Prog.lift (.waitDma2 cc0_scoped0.sem (idxSrc i src) idx ((View.wordExact_bits rfl).reshape _ _) hidx.wordExact)
  zeros i acc 200 (Nat.le_refl _)
  start i tab (slab rows 0 Facts₀.inb_S4x128x128_S1x128x128_0_0_0) (idxRow idx ![0, 0] Facts₀.inb_S200x128_S1x128_0_0) cc0_scratch3.sem
  start i tab (slab rows 1 Facts₀.inb_S4x128x128_S1x128x128_1_0_0) (idxRow idx ![1, 0] Facts₀.inb_S200x128_S1x128_1_0) cc0_scratch4.sem
  start i tab (slab rows 2 Facts₀.inb_S4x128x128_S1x128x128_2_0_0) (idxRow idx ![2, 0] Facts₀.inb_S200x128_S1x128_2_0) cc0_scratch5.sem
  start i tab (slab rows 3 Facts₀.inb_S4x128x128_S1x128x128_3_0_0) (idxRow idx ![3, 0] Facts₀.inb_S200x128_S1x128_3_0) cc0_scratch6.sem
  Scf.Loop.for k0_t1_loop Facts₀.k0_t1_ok ⟨⟩ body
  Prog.lift (.enqueueDma acc (.here (outDst i out)) (.dma cc0_scoped1.sem) hacc.wordExact ((View.wordExact_bits rfl).reshape _ _) ⟨Or.inl rfl, trivial⟩)
  Prog.lift (.waitDma2 cc0_scoped1.sem acc (outDst i out) hacc.wordExact ((View.wordExact_bits rfl).reshape _ _))

/-- The whole of a tile's program. -/
def kern (src : Memref sig .scVector .hbm S32x200x128 .i32) (tab : Memref sig .scVector .hbm S100000x128 .f32) (out : Memref sig .scVector .hbm S32x3200 .f32)
    (idx : Memref sig .scVector .vmem S200x128 .i32) (hidx : idx.IsWhole) (rows : Memref sig .scVector .vmem S4x128x128 .f32) (acc : Memref sig .scVector .vmem S3200 .f32) (hacc : acc.IsWhole) :
    Prog (Eff (F := F) i) PUnit :=
  kernWith i src tab out idx hidx rows acc hacc fun t _ => outer i tab idx rows acc t

theorem op_congr {E : Type → Type v} {α β : Type} {e : E β} {k k' : β → Prog E α} (hk : ∀ x, k x = k' x) : Prog.op e k = Prog.op e k' :=
  congrArg _ (funext hk)

/-- A loop, then what follows: the same on both sides when what follows is. -/
theorem loop_congr {E : Type → Type v} {α β γ δ : Type} {L : Prog E γ} {r : γ → Prog E α} {k : α → Prog E β} {r' : γ → Prog E δ} {k' : δ → Prog E β}
    (h : ∀ z, Prog.bind (r z) k = Prog.bind (r' z) k') :
    Prog.bind (Prog.bind (Prog.ret PUnit.unit) fun _ => Prog.bind L r) k = Prog.bind (Prog.bind (Prog.ret PUnit.unit) fun _ => Prog.bind L r') k' := by
  refine (Prog.bind_assoc L r k).trans (Eq.trans ?_ (Prog.bind_assoc L r' k').symm)
  exact congrArg _ (funext h)

/-- A conditional that returns one value from both branches, then what follows that value. -/
theorem tail_congr {E : Type → Type v} {α β γ δ : Type} {c : Prop} [Decidable c] {s : c → Prog E γ} {a : α} {a' : δ} {k : α → Prog E β} {k' : δ → Prog E β} (h : k a = k' a') :
    Prog.bind (Prog.bind (Prog.ret PUnit.unit) fun _ => if h : c then Prog.bind (s h) fun _ => Prog.ret a else Prog.ret a) k
      = Prog.bind (Prog.bind (Prog.ret PUnit.unit) fun _ => if h : c then Prog.bind (s h) fun _ => Prog.ret a' else Prog.ret a') k' := by
  show Prog.bind (if h : c then Prog.bind (s h) fun _ => Prog.ret a else Prog.ret a) k = Prog.bind (if h : c then Prog.bind (s h) fun _ => Prog.ret a' else Prog.ret a') k'
  split
  · refine (Prog.bind_assoc _ _ k).trans (Eq.trans ?_ (Prog.bind_assoc _ _ k').symm)
    exact congrArg _ (funext fun _ => h)
  · exact h

set_option maxHeartbeats 2000000 in
set_option maxRecDepth 100000 in
/-- The printed function is the folded one. -/
theorem kernel_eq (src : Memref sig .scVector .hbm S32x200x128 .i32) (hsrc : src.IsWhole) (tab : Memref sig .scVector .hbm S100000x128 .f32) (htab : tab.IsWhole)
    (out : Memref sig .scVector .hbm S32x3200 .f32) (hout : out.IsWhole) (idx : Memref sig .scVector .vmem S200x128 .i32) (hidx : idx.IsWhole)
    (rows : Memref sig .scVector .vmem S4x128x128 .f32) (hrows : rows.IsWhole) (acc : Memref sig .scVector .vmem S3200 .f32) (hacc : acc.IsWhole) :
    cc0_sc_kernel (F := F) i src hsrc tab htab out hout idx hidx rows hrows acc hacc cc0_scratch3 cc0_scratch4 cc0_scratch5 cc0_scratch6 cc0_scoped0 cc0_scoped1
      = kern i src tab out idx hidx rows acc hacc := by
  refine congrArg (kernWith i src tab out idx hidx rows acc hacc) (funext fun t => funext fun _ => ?_)
  refine op_congr fun _ => loop_congr ?_
  rintro ⟨a0, a1, a2, a3, a4, a5, a6, a7⟩
  iterate 12 refine op_congr fun _ => ?_
  refine tail_congr ?_
  refine op_congr fun _ => loop_congr ?_
  rintro ⟨a0, a1, a2, a3, a4, a5, a6, a7⟩
  iterate 12 refine op_congr fun _ => ?_
  refine tail_congr ?_
  refine op_congr fun _ => loop_congr ?_
  rintro ⟨a0, a1, a2, a3, a4, a5, a6, a7⟩
  iterate 12 refine op_congr fun _ => ?_
  refine tail_congr ?_
  refine op_congr fun _ => loop_congr ?_
  rintro ⟨a0, a1, a2, a3, a4, a5, a6, a7⟩
  iterate 12 refine op_congr fun _ => ?_
  exact (Prog.bind_pure _).symm

end Folded

end Cert.Proof.Tile
-- ==== Proof.Model.lean ====
/-
  What a tile computes, as functions: the rows a chunk gathers (`gath`), the eight running sums over a chunk's rows
  (`sums`), the accumulator after a chunk (`chunkAcc`) and after the first `n` chunks (`accN`), and the array of all
  tiles' partial sums (`PV`). Over any float values.
-/
module

public import proofs.«01_k».proof.Proof.Tile
public import Idealize.ShloMosaic.Lib.ValueLayout

@[expose] public section

noncomputable section

namespace Cert.Proof.Model

open Cert.KernelIdeal Cert.KernelIdeal.Gen Cert.Proof.Tile
open Idealize.ShloMosaic Idealize.ShloMosaic.ValueIdx

variable {F : FTy → Type} [FloatOps F]

/-- The number of tile `(L 0, L 1)`: twice its subcore plus its core. -/
def wid (L : grid0.Coords) : Fin 32 := ⟨2 * (L 1).val + (L 0).val, by
  have h1 : (L 1).val < 16 := (L 1).isLt
  have h0 : (L 0).val < 2 := (L 0).isLt
  omega⟩

/-- The rows that chunk `c` of tile `w` gathers: row `r` is the table's row at the chunk's word `r`. -/
def gath (T : S100000x128.Idx → F .f32) (I : S32x200x128.Idx → BitVec 32) (w : Fin 32) (c : ℕ) : S128x128.Idx → F .f32 := fun x =>
  T (ix2 (⟨(I (ix3 w (⟨c % 200, Nat.mod_lt _ (by decide)⟩ : Fin 200) (x 0 : Fin 128))).toNat % 100000, Nat.mod_lt _ (by decide)⟩ : Fin 100000) (x 1 : Fin 128))

/-- Lanes `16 q …` of row `r` of a slab. -/
def rowV (g : S128x128.Idx → F .f32) (r : ℕ) (q : Fin 8) : V16 (F := F) := fun x =>
  g (ix2 (⟨r % 128, Nat.mod_lt _ (by decide)⟩ : Fin 128) (⟨16 * q.val + (x 0).val, by have h : (x 0).val < 16 := (x 0).isLt; omega⟩ : Fin 128))

/-- Rows `2 n` and `2 n + 1` added into the sums. -/
def addPair (g : S128x128.Idx → F .f32) (n : ℕ) : A8 (F := F) → A8 (F := F)
  | (a0, a1, a2, a3, a4, a5, a6, a7) =>
    (addf a0 (rowV g (2 * n) 0), addf a1 (rowV g (2 * n) 1), addf a2 (rowV g (2 * n) 2), addf a3 (rowV g (2 * n) 3),
      addf a4 (rowV g (2 * n + 1) 0), addf a5 (rowV g (2 * n + 1) 1), addf a6 (rowV g (2 * n + 1) 2), addf a7 (rowV g (2 * n + 1) 3))

/-- Zero, sixteen times. -/
def zeroV : V16 (F := F) := broadcast S16 (Scalar.ofBits .f32 0x00000000#32)

/-- The sums over the first `n` pairs of rows. -/
def sums (g : S128x128.Idx → F .f32) : ℕ → A8 (F := F)
  | 0 => (zeroV, zeroV, zeroV, zeroV, zeroV, zeroV, zeroV, zeroV)
  | n + 1 => addPair g n (sums g n)

/-- The accumulator with sixteen lanes from `o` on brought up by `x + y`. -/
def upd (A : S3200.Idx → F .f32) (o : ℕ) (x y : V16 (F := F)) : S3200.Idx → F .f32 := fun j =>
  if h : o ≤ (j 0).val ∧ (j 0).val < o + 16 then
    FloatOps.addf (A j) (FloatOps.addf (x (ix1 (⟨(j 0).val - o, by omega⟩ : Fin 16))) (y (ix1 (⟨(j 0).val - o, by omega⟩ : Fin 16))))
  else A j

/-- Where chunk `c` of tile `w` goes in the accumulator: its list's number, times 64. -/
def pos (w c : ℕ) : ℕ := (w * 25600 + c * 128) / 16384 * 64

/-- The accumulator after a chunk whose sums are `s`. -/
def chunkAcc (A : S3200.Idx → F .f32) (p : ℕ) : A8 (F := F) → (S3200.Idx → F .f32)
  | (a0, a1, a2, a3, a4, a5, a6, a7) => upd (upd (upd (upd A p a0 a4) (p + 16) a1 a5) (p + 32) a2 a6) (p + 48) a3 a7

/-- The accumulator after the first `n` chunks. -/
def accN (T : S100000x128.Idx → F .f32) (I : S32x200x128.Idx → BitVec 32) (w : Fin 32) : ℕ → (S3200.Idx → F .f32)
  | 0 => fun _ => Scalar.ofBits .f32 0x00000000#32
  | n + 1 => chunkAcc (accN T I w n) (pos w.val n) (sums (gath T I w n) 64)

/-- The partial sums of all tiles. -/
def PV (T : S100000x128.Idx → F .f32) (I : S32x200x128.Idx → BitVec 32) : S32x3200.Idx → F .f32 := fun j =>
  accN T I (j 0 : Fin 32) 200 (ix1 (j 1 : Fin 3200))

end Cert.Proof.Model
-- ==== Proof.Sums.lean ====
/-
  The tile's arithmetic, run: a chunk's loop leaves the chunk's sums (`wp_chunkSum`), and an accumulator update leaves
  the accumulator brought up (`wp_accAdd`); the zero stores leave it zero (`wp_zeros`).
-/
module

public import proofs.«01_k».proof.Proof.Model
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import Idealize.ShloMosaic.Lib.WritesUnit
public import proofs.«01_k».proof.Proof.Gen.KernelIdeal.Skeleton

@[expose] public section

noncomputable section

namespace Cert.Proof.Run

open Cert.KernelIdeal Cert.KernelIdeal.Gen Cert.Proof.Tile Cert.Proof.Model

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds library, the pipeline's, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL

/-- The pipeline's rounds: the left part of the second component. -/
def EP : Emb UP (MT nD τ sig (HIx 1) (Elt F) ℕ UU ℕ) :=
  (Emb.inl : Emb UP (UP × Counters)).trans (embR : Emb (UP × Counters) (MT nD τ sig (HIx 1) (Elt F) ℕ (UH × (UP × Counters)) ℕ))
instance EP_landsIn : (EP (F := F)).LandsIn (upEmb : UEmb _ (MT nD τ sig (HIx 1) (Elt F) ℕ UU ℕ)) := by unfold EP embR; infer_instance

variable [FloatOps F] (d : Dev nD) (L : grid0.Coords)

abbrev cV (L : grid0.Coords) : Fin τ.nSC := (L 0).castLE hcore0
abbrev jV (L : grid0.Coords) : Fin τ.nSub := (L 1).castLE hsub0
abbrev VT (d : Dev nD) (L : grid0.Coords) : Thread nD τ := V d (cV L) (jV L)

/-- Running a piece of a tile's program. -/
abbrev tw {α : Type} (p : Prog (Eff (F := F) L) α) (Q : α → sProp 𝕄) : sProp 𝕄 :=
  wp frame (wpE (defs₀ (F := F)) 𝒱₀ (VT d L) none) Set.univ p Q

theorem tw_pure {α : Type} (a : α) (Q : α → sProp 𝕄) : Q a ⊢ tw d L (pure a) Q := by
  show Q a ⊢ wp _ _ _ (Prog.ret a) Q
  rw [wp_ret]
  iintro H; imodintro; iexact H

/-- A view's elements, held whole at contents the view reads as `A`. -/
abbrev Holds {sp : Space} {s : Shape} {e : EltTy} (v : View sig .scVector sp s e) (A : s.Idx → Elt F e) : sProp 𝕄 :=
  iprop(∃ f, ⌜v.read (Elt F) f = A⌝ ∗ (v.loc (VT d L) ↦[v.set]{fullShare} f))

/-! ## Rows of a slab -/

section Slab
variable (v : Memref sig .scVector .vmem S128x128 .f32) (f : Buf (Elt F) (v.view.loc (VT d L))) (q : PosShare TreeShare)
  (g : S128x128.Idx → F .f32) (hg : v.view.read (Elt F) f = g)

/-- The sixteen lanes loaded at row `r`, group `j`. -/
theorem row_read (o : Fin 2 → ℕ) (h : ∀ a, o a + S1x16.size a ≤ S128x128.size a) (r : ℕ) (j : Fin 8) (ho : o = ![r, 16 * j.val]) :
    (shapeCast S16 (((v.access (Rect.unit (s := S128x128) o S1x16.size h)).read (Elt F) f) : S1x16.Idx → F .f32) Facts₀.shapeCasts_S1x16_S16 : V16 (F := F))
      = rowV (v.view.read (Elt F) f) r j := by
  subst ho
  funext x
  rw [eq_ix1 x]
  refine (shapeCast_1a_a_apply (a := 16) _ _ _).trans ?_
  unfold rowV
  show v.view.read (Elt F) f ((Rect.unit (s := S128x128) ![r, 16 * j.val] S1x16.size h).emb (ix2 (0 : Fin 1) (x 0 : Fin 16))) = _
  refine congrArg _ (funext fun a => Fin.ext ?_)
  have hr : r + 1 ≤ 128 := h 0
  match a with
  | ⟨0, _⟩ => show r + 1 * 0 = r % 128; omega
  | ⟨1, _⟩ => show 16 * j.val + 1 * (x 0).val = 16 * j.val + (x 0).val; omega

include hg in
theorem wp_ldRow (o : Fin 2 → ℕ) (h : ∀ a, o a + S1x16.size a ≤ S128x128.size a) (r : ℕ) (j : Fin 8) (ho : o = ![r, 16 * j.val])
    {β : Type} (k : V16 (F := F) → Prog (Eff (F := F) L) β) (Q : β → sProp 𝕄) :
    (v.view.loc (VT d L) ↦[v.view.set]{q} f : sProp 𝕄)
      ⊢ iprop(((v.view.loc (VT d L) ↦[v.view.set]{q} f) -∗ tw d L (k (rowV g r j)) Q) -∗ tw d L (ldRow L v o h >>= k) Q) := by
  subst hg
  rw [← row_read d L v f o h r j ho]
  have hS : (v.access (Rect.unit (s := S128x128) o S1x16.size h)).set ⊆ v.view.set := View.set_slice_subset _ _
  have hl : v.view.LoadsAt (Rect.unit (s := S128x128) o S1x16.size h).toLoadRect := View.loadsAt_vmem Facts₀.h_S1x16
  exact wp_load_rect 𝒱₀ (VT d L) none Set.univ (m := v) (r := Rect.unit (s := S128x128) o S1x16.size h) (hl := hl)
    (k := fun x => k (shapeCast S16 x Facts₀.shapeCasts_S1x16_S16)) (q := q) (f := f) hS

theorem pair_lt (k : KK) (j : Fin 16) : k.val < 4 := k.isLt

include hg in
theorem wp_rowPair (k : KK) (j : Fin 16) (A : A8 (F := F)) {β : Type} (kk : A8 (F := F) → Prog (Eff (F := F) L) β) (Q : β → sProp 𝕄) :
    (v.view.loc (VT d L) ↦[v.view.set]{q} f : sProp 𝕄)
      ⊢ iprop(((v.view.loc (VT d L) ↦[v.view.set]{q} f) -∗ tw d L (kk (addPair g (16 * k.val + j.val) A)) Q) -∗ tw d L (rowPair L v k j A >>= kk) Q) := by
  obtain ⟨a0, a1, a2, a3, a4, a5, a6, a7⟩ := A
  unfold rowPair
  simp only [bind_assoc]
  iintro H Hk
  have e : 32 * k.val + 2 * j.val = 2 * (16 * k.val + j.val) := by omega
  have e' : 32 * k.val + 2 * j.val + 1 = 2 * (16 * k.val + j.val) + 1 := by omega
  iapply (wp_ldRow d L v f q g hg _ _ (2 * (16 * k.val + j.val)) 0 (by rw [k0_off3_eq, e]; rfl)) $$ H; iintro H
  iapply (wp_ldRow d L v f q g hg _ _ (2 * (16 * k.val + j.val) + 1) 0 (by rw [k0_off4_eq, ← e']; rfl)) $$ H; iintro H
  iapply (wp_ldRow d L v f q g hg _ _ (2 * (16 * k.val + j.val)) 1 (by rw [k0_off5_eq, e]; rfl)) $$ H; iintro H
  iapply (wp_ldRow d L v f q g hg _ _ (2 * (16 * k.val + j.val) + 1) 1 (by rw [k0_off6_eq, ← e']; rfl)) $$ H; iintro H
  iapply (wp_ldRow d L v f q g hg _ _ (2 * (16 * k.val + j.val)) 2 (by rw [k0_off7_eq, e]; rfl)) $$ H; iintro H
  iapply (wp_ldRow d L v f q g hg _ _ (2 * (16 * k.val + j.val) + 1) 2 (by rw [k0_off8_eq, ← e']; rfl)) $$ H; iintro H
  iapply (wp_ldRow d L v f q g hg _ _ (2 * (16 * k.val + j.val)) 3 (by rw [k0_off9_eq, e]; rfl)) $$ H; iintro H
  iapply (wp_ldRow d L v f q g hg _ _ (2 * (16 * k.val + j.val) + 1) 3 (by rw [k0_off10_eq, ← e']; rfl)) $$ H; iintro H
  iapply Hk; iexact H

include hg in
theorem wp_rowPairs (k : KK) {β : Type} (kk : A8 (F := F) → Prog (Eff (F := F) L) β) (Q : β → sProp 𝕄) : ∀ (n : ℕ) (hn : n ≤ 16),
    (v.view.loc (VT d L) ↦[v.view.set]{q} f : sProp 𝕄)
      ⊢ iprop(((v.view.loc (VT d L) ↦[v.view.set]{q} f) -∗ tw d L (kk (sums g (16 * (k.val + 1)))) Q)
          -∗ tw d L (rowPairs L v k n hn (sums g (16 * k.val + (16 - n))) >>= kk) Q)
  | 0, hn => by
    iintro H Hk
    iapply Hk $$ H
  | n + 1, hn => by
    unfold rowPairs
    simp only [bind_assoc]
    iintro H Hk
    iapply (wp_rowPair d L v f q g hg k ⟨15 - n, _⟩ _) $$ H; iintro H
    have e : addPair g (16 * k.val + (⟨15 - n, by omega⟩ : Fin 16).val) (sums g (16 * k.val + (16 - (n + 1)))) = sums g (16 * k.val + (16 - n)) := by
      show _ = sums g _
      rw [show 16 * k.val + (16 - n) = (16 * k.val + (16 - (n + 1))) + 1 by omega]
      show addPair g (16 * k.val + (15 - n)) _ = addPair g (16 * k.val + (16 - (n + 1))) _
      rw [show 15 - n = 16 - (n + 1) by omega]
    rw [e]
    iapply (wp_rowPairs k kk Q n _) $$ H Hk

include hg in
/-- The chunk's loop leaves the chunk's sums. -/
theorem wp_chunkSum {β : Type} (kk : A8 (F := F) → Prog (Eff (F := F) L) β) (Q : β → sProp 𝕄) :
    (v.view.loc (VT d L) ↦[v.view.set]{q} f : sProp 𝕄)
      ⊢ iprop(((v.view.loc (VT d L) ↦[v.view.set]{q} f) -∗ tw d L (kk (sums g 64)) Q) -∗ tw d L (chunkSum L v >>= kk) Q) := by
  unfold chunkSum
  iintro H Hk
  iapply (Scf.wp_for_bind frame (wpE (defs₀ (F := F)) 𝒱₀ (VT d L) none) Set.univ _ _ _ Facts₀.k0_t2_ok _ (fun k A => trip L v k A)
    (fun k A => iprop(⌜A = sums g (16 * k)⌝ ∗ (v.view.loc (VT d L) ↦[v.view.set]{q} f))) ?_) $$ [H]
  · intro k A
    iintro ⟨%hA, H⟩
    subst hA
    have h := wp_rowPairs d L v f q g hg k pure (fun A => iprop(⌜A = sums g (16 * (k.val + 1))⌝ ∗ (v.view.loc (VT d L) ↦[v.view.set]{q} f))) 16 (Nat.le_refl _)
    rw [bind_pure] at h
    iapply h $$ H
    iintro H
    iapply (tw_pure d L _ _)
    isplitr; · ipureintro; rfl
    iexact H
  · isplitr; · ipureintro; rfl
    iexact H
  iintro %A ⟨%hA, H⟩
  rw [hA]
  iapply Hk; iexact H

end Slab

/-! ## The accumulator -/

section Acc
variable (acc : Memref sig .scVector .vmem S3200 .f32)

theorem S16_id (x : V16 (F := F)) (h : S16.ShapeCasts S16) : shapeCast S16 x h = x := by
  funext j; exact congrArg x (Shape.reshapeEquiv_self _ _)

/-- Sixteen lanes stored at `o`. -/
theorem read_put (f : acc.view.ty.Contents (Elt F)) (o : Fin 1 → ℕ) (h : ∀ a, o a + S16.size a ≤ S3200.size a) (p : ℕ) (ho : o = ![p]) (w : V16 (F := F)) :
    acc.view.read (Elt F) ((acc.view.slice (Rect.unit (s := S3200) o S16.size h)).write (Elt F) f w Finset.univ)
      = fun j => if h : p ≤ (j 0).val ∧ (j 0).val < p + 16 then w (ix1 (⟨(j 0).val - p, by omega⟩ : Fin 16)) else acc.view.read (Elt F) f j := by
  subst ho
  funext j
  by_cases hj : p ≤ (j 0).val ∧ (j 0).val < p + 16
  · rw [dif_pos hj]
    refine View.read_writes_cons_unit_of_mem acc.view f h w [] j (ix1 (⟨(j 0).val - p, by omega⟩ : Fin 16)) rfl ?_
    intro a
    match a with
    | ⟨0, _⟩ => show (j 0).val = p + ((j 0).val - p); omega
  · rw [dif_neg hj]
    refine View.read_writes_cons_unit_of_not_mem acc.view f h w [] j rfl 0 ?_
    show (j 0).val < p ∨ p + 16 ≤ (j 0).val
    omega

theorem wp_accAdd (A : S3200.Idx → F .f32) (o : Fin 1 → ℕ) (h : ∀ a, o a + S16.size a ≤ S3200.size a) (p : ℕ) (ho : o = ![p]) (x y : V16 (F := F))
    {β : Type} (k : PUnit → Prog (Eff (F := F) L) β) (Q : β → sProp 𝕄) :
    (Holds d L acc.view A : sProp 𝕄)
      ⊢ iprop((Holds d L acc.view (upd A p x y) -∗ tw d L (k ⟨⟩) Q) -∗ tw d L (accAdd L acc o h x y >>= k) Q) := by
  iintro ⟨%f, %hf, H⟩ Hk
  have hS : (acc.access (Rect.unit (s := S3200) o S16.size h)).set ⊆ acc.view.set := View.set_slice_subset _ _
  have hl : acc.view.LoadsAt (Rect.unit (s := S3200) o S16.size h).toLoadRect := View.loadsAt_vmem Facts₀.h_S16
  unfold accAdd
  simp only [bind_assoc]
  iapply (wp_load_rect 𝒱₀ (VT d L) none Set.univ (m := acc) (r := Rect.unit (s := S3200) o S16.size h) (hl := hl) hS) $$ H; iintro H
  iapply (wp_load_rect 𝒱₀ (VT d L) none Set.univ (m := acc) (r := Rect.unit (s := S3200) o S16.size h) (hl := hl) hS) $$ H; iintro H
  iapply (wp_store 𝒱₀ (VT d L) none Set.univ (m := acc) (r := Rect.unit (s := S3200) o S16.size h) hS) $$ H; iintro H
  iapply Hk
  iexists ((acc.view.slice (Rect.unit (s := S3200) o S16.size h)).write (Elt F) f (shapeCast S16 (addf (shapeCast S16 ((acc.access (Rect.unit (s := S3200) o S16.size h)).read (Elt F) f) Facts₀.shapeCasts_S16_S16) (addf x y)) Facts₀.shapeCasts_S16_S16) Finset.univ)
  isplitr [H]
  · ipureintro
    exact (read_put acc f o h p ho (shapeCast S16 (addf (shapeCast S16 ((acc.access (Rect.unit (s := S3200) o S16.size h)).read (Elt F) f) Facts₀.shapeCasts_S16_S16) (addf x y)) Facts₀.shapeCasts_S16_S16)).trans (by
      subst hf ho
      funext j
      unfold upd
      split
      · rename_i hj
        simp only [S16_id]
        show FloatOps.addf (acc.view.read (Elt F) f ((Rect.unit (s := S3200) ![p] S16.size h).emb _)) _ = _
        congr 1
        refine congrArg _ (funext fun a => Fin.ext ?_)
        match a with
        | ⟨0, _⟩ => show p + 1 * ((j 0).val - p) = (j 0).val; omega
      · rfl)
  · iexact H

/-- The zero stores, the last `n` of two hundred, leave the accumulator zero. -/
theorem wp_zeros {β : Type} (k : PUnit → Prog (Eff (F := F) L) β) (Q : β → sProp 𝕄) : ∀ (n : ℕ) (hn : n ≤ 200) (A : S3200.Idx → F .f32)
    (_ : ∀ j : S3200.Idx, (j 0).val < 16 * (200 - n) → A j = Scalar.ofBits .f32 0x00000000#32),
    (Holds d L acc.view A : sProp 𝕄)
      ⊢ iprop((Holds d L acc.view (fun _ => (Scalar.ofBits .f32 0x00000000#32 : F .f32)) -∗ tw d L (k ⟨⟩) Q) -∗ tw d L (zeros L acc n hn >>= k) Q)
  | 0, hn, A, hA => by
    obtain rfl : A = fun _ => (Scalar.ofBits .f32 0x00000000#32 : F .f32) := funext fun j => hA j (j 0).isLt
    iintro H Hk
    iapply Hk $$ H
  | n + 1, hn, A, hA => by
    iintro ⟨%f, %hf, H⟩ Hk
    have hb : ∀ a, (![16 * (199 - n)] : Fin 1 → ℕ) a + S16.size a ≤ S3200.size a := by intro a; fin_cases a; show 16 * (199 - n) + 16 ≤ 3200; omega
    have hS : (acc.access (Rect.unit (s := S3200) ![16 * (199 - n)] S16.size hb)).set ⊆ acc.view.set := View.set_slice_subset _ _
    have hl : acc.view.LoadsAt (Rect.unit (s := S3200) ![16 * (199 - n)] S16.size hb).toLoadRect := View.loadsAt_vmem Facts₀.h_S16
    unfold zeros
    simp only [bind_assoc]
    iapply (wp_load_rect 𝒱₀ (VT d L) none Set.univ (m := acc) (r := Rect.unit (s := S3200) ![16 * (199 - n)] S16.size hb) (hl := hl) hS) $$ H; iintro H
    iapply (wp_store 𝒱₀ (VT d L) none Set.univ (m := acc) (r := Rect.unit (s := S3200) ![16 * (199 - n)] S16.size hb) hS) $$ H; iintro H
    iapply (wp_zeros k Q n (by omega) (fun j => if h : 16 * (199 - n) ≤ (j 0).val ∧ (j 0).val < 16 * (199 - n) + 16 then (Scalar.ofBits .f32 0x00000000#32 : F .f32) else A j) ?_) $$ [H]
    · intro j hj
      dsimp only
      split
      · rfl
      · exact hA j (by omega)
    · iexists ((acc.view.slice (Rect.unit (s := S3200) ![16 * (199 - n)] S16.size hb)).write (Elt F) f (shapeCast S16 (broadcast S16 (Scalar.ofBits .f32 0x00000000#32)) Facts₀.shapeCasts_S16_S16 : V16 (F := F)) Finset.univ)
      isplitr [H]
      · ipureintro
        refine (read_put acc f _ hb _ rfl _).trans ?_
        subst hf
        rfl
      · iexact H
    iexact Hk

end Acc

end Cert.Proof.Run
-- ==== Proof.Off.lean ====
module
public import proofs.«01_k».proof.Proof.Model
@[expose] public section
namespace Cert.Proof.Run
open Cert.KernelIdeal Cert.KernelIdeal.Gen Cert.Proof.Tile Cert.Proof.Model
open Idealize.ShloMosaic Idealize.ShloMosaic.ValueIdx
/-- Where a chunk's sixteen lanes go in the accumulator. -/
theorem k0_off11_val : ∀ (i : grid0.Coords) (t : Fin k0_t1_loop.trips) (r q : Fin 4),
    k0_off11 i t (BitVec.ofNat 32 r.val) (BitVec.ofNat 32 (16 * q.val)) = ![pos (wid i).val (4 * t.val + r.val) + 16 * q.val] := by decide +kernel
theorem k0_cond1_val : ∀ t : Fin k0_t1_loop.trips, k0_cond1 t = 1#1 ↔ t.val < 49 := by decide +kernel
theorem k0_cond2_val : ∀ t : Fin k0_t1_loop.trips, k0_cond2 t = 1#1 ↔ t.val < 49 := by decide +kernel
theorem k0_cond3_val : ∀ t : Fin k0_t1_loop.trips, k0_cond3 t = 1#1 ↔ t.val < 49 := by decide +kernel
theorem k0_cond4_val : ∀ t : Fin k0_t1_loop.trips, k0_cond4 t = 1#1 ↔ t.val < 49 := by decide +kernel
end Cert.Proof.Run
-- ==== Proof.Gather.lean ====
/-
  A chunk's gather: its issue, what is held while it is on the way, and its wait, which brings the chunk's 128 rows.
-/
module

public import proofs.«01_k».proof.Proof.Sums
public import proofs.«01_k».proof.Proof.Off

@[expose] public section

noncomputable section

namespace Cert.Proof.Run

open Cert.KernelIdeal Cert.KernelIdeal.Gen Cert.Proof.Tile Cert.Proof.Model

open Idealize.ShloMosaic Idealize.ShloMosaic.ValueIdx
open Idealize.ShloMosaic.SparseCore (V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] (d : Dev nD) (L : grid0.Coords)

/-! ## The arrays, as the tiles and as the device name them -/

abbrev iLoc (d : Dev nD) : Loc nD τ sig := (SparseCore.T d).loc main_v1
abbrev xLoc (d : Dev nD) : Loc nD τ sig := (SparseCore.T d).loc main_v2
abbrev oLoc (d : Dev nD) : Loc nD τ sig := (SparseCore.T d).loc main_v3

abbrev iV : Memref sig .scVector .hbm S32x200x128 .i32 := Memref.whole main_v1_scv
abbrev xV : Memref sig .scVector .hbm S100000x128 .f32 := Memref.whole main_v2_scv
abbrev oV : Memref sig .scVector .hbm S32x3200 .f32 := Memref.whole main_v3_scv
abbrev lV : Memref sig .scVector .vmem S200x128 .i32 := Memref.whole cc0_scratch0
abbrev rV : Memref sig .scVector .vmem S4x128x128 .f32 := Memref.whole cc0_scratch1
abbrev aV : Memref sig .scVector .vmem S3200 .f32 := Memref.whole cc0_scratch2
abbrev lLoc (d : Dev nD) (L : grid0.Coords) : Loc nD τ sig := (VT d L).loc cc0_scratch0

section Gather
variable (X : S100000x128.Idx → F .f32) (I : S32x200x128.Idx → BitVec 32)
  (fx : Buf (Elt F) (lLoc d L)) (qt ql : PosShare TreeShare)

/-- The table's read share and the list buffer's, whole. -/
abbrev tabTok : sProp 𝕄 := xLoc d ↦[Finset.univ]{qt} (X : Buf (Elt F) (xLoc d))
abbrev listTok (S : Finset (Idx (lLoc d L))) : sProp 𝕄 := lLoc d L ↦[S]{ql} fx

/-- What a chunk's gather delivers: the slab at the chunk's rows, and the shares of table and list it read. -/
abbrev Got (v : Memref sig .scVector .vmem S128x128 .f32) (S : Finset (Idx (lLoc d L))) (c : ℕ) : sProp 𝕄 :=
  iprop(Holds d L v.view (gath X I (wid L) c) ∗ tabTok (F := F) d X qt ∗ listTok d L fx ql S)

/-- A slab at rest, with what a gather into it takes. -/
abbrev Idle (v : Memref sig .scVector .vmem S128x128 .f32) (sm : DmaSem sig) : sProp 𝕄 :=
  iprop((∃ A, Holds d L v.view A) ∗ tabTok (F := F) d X qt ∗ listTok d L fx ql Finset.univ ∗ semVal ((VT d L), SemLoc.dma sm) 0)

/-- A slab whose gather, of chunk `c`, is on the way. -/
abbrev Going (v : Memref sig .scVector .vmem S128x128 .f32) (sm : DmaSem sig) (c : ℕ) : sProp 𝕄 :=
  iprop(∃ S, Transfers.Flight countersEmb (VT d L) (.dma sm) (default : HIx 1) v.view.dmaCredit (Got d L X I fx qt ql v S c)
    ∗ listTok d L fx ql (Finset.univ \ S))

theorem tabAll_emb (x : S100000x128.Idx) : (tabAll xV).view.emb x = x := by
  funext a
  refine Fin.ext ?_
  match a with
  | ⟨0, _⟩ => show 0 + 1 * (x 0).val = (x 0).val; omega
  | ⟨1, _⟩ => show 0 + 1 * (x 1).val = (x 1).val; omega

theorem tabAll_set : (tabAll xV).view.set = Finset.univ :=
  Finset.eq_univ_iff_forall.mpr fun x => Finset.mem_map.mpr ⟨x, Finset.mem_univ _, tabAll_emb x⟩

theorem tabAll_read : (tabAll xV).view.read (Elt F) X = X := by
  funext x
  exact congrArg X (tabAll_emb x)

theorem idxRow_emb (o : Fin 2 → ℕ) (h : ∀ a, o a + S1x128.size a ≤ S200x128.size a) (c : ℕ) (hc : c < 200) (ho : o = ![c, 0]) (x : S128.Idx) :
    (idxRow lV o h).view.emb x = ix2 (⟨c, hc⟩ : Fin 200) (x 0 : Fin 128) := by
  subst ho
  refine (congrArg (Rect.unit (s := S200x128) ![c, 0] S1x128.size h).emb (Shape.reshapeEquiv_cons_one (d := ![128]) Facts₀.squeezes_S1x128_S128.numel_eq.symm x)).trans ?_
  funext a
  refine Fin.ext ?_
  match a with
  | ⟨0, _⟩ => show c + 1 * 0 = c; omega
  | ⟨1, _⟩ => show 0 + 1 * (x 0).val = (x 0).val; omega

/-- The gather's rows are the chunk's. -/
theorem payload_eq (hfx : ∀ (c : Fin 200) (r : Fin 128), fx (ix2 c r) = I (ix3 (wid L) c r)) (hI : ∀ j, (I j).toNat < 100000)
    (o : Fin 2 → ℕ) (h : ∀ a, o a + S1x128.size a ≤ S200x128.size a) (c : ℕ) (hc : c < 200) (ho : o = ![c, 0])
    (hin : ∀ x, ((idxRow lV o h).view.read (Elt F) fx x).toNat < S100000x128.size Facts₀.gathers_S100000x128_S128x128.axis) :
    SparseCore.gatherPayload Facts₀.gathers_S100000x128_S128x128 ((tabAll xV).view.read (Elt F) X)
      (SparseCore.rows ((idxRow lV o h).view.read (Elt F) fx) rfl hin) = gath X I (wid L) c := by
  rw [tabAll_read]
  funext x
  unfold SparseCore.gatherPayload gath
  refine congrArg X (funext fun a => Fin.ext ?_)
  match a with
  | ⟨0, _⟩ =>
    have e : ∀ y : S128.Idx, (idxRow lV o h).view.read (Elt F) fx y = I (ix3 (wid L) (⟨c, hc⟩ : Fin 200) (y 0 : Fin 128)) := fun y =>
      (congrArg fx (idxRow_emb o h c hc ho y)).trans (hfx _ _)
    show ((idxRow lV o h).view.read (Elt F) fx (S128.rowMajor.symm (x 0 : Fin 128))).toNat = (I (ix3 (wid L) (⟨c % 200, _⟩ : Fin 200) (x 0 : Fin 128))).toNat % 100000
    rw [e, Nat.mod_eq_of_lt (hI _)]
    refine congrArg (fun j => (I j).toNat) ?_
    congr 1
    · exact Fin.ext (Nat.mod_eq_of_lt hc).symm
    · exact Fin.ext ((Shape.rowMajor_val_one (d := ![128]) (S128.rowMajor.symm (x 0 : Fin 128))).symm.trans (congrArg Fin.val (Equiv.apply_symm_apply S128.rowMajor (x 0 : Fin 128))))
  | ⟨1, _⟩ => rfl

theorem wp_start (hfx : ∀ (c : Fin 200) (r : Fin 128), fx (ix2 c r) = I (ix3 (wid L) c r)) (hI : ∀ j, (I j).toNat < 100000)
    (v : Memref sig .scVector .vmem S128x128 .f32) (sm : DmaSem sig)
    (hN : ∀ h : S100000x128.Gathers 0 S128x128, ∑ j, (v.slice (S128x128.rowRect h.axis' j) (S128x128.stride_rowRect h.axis' j)).view.dmaCredit = v.view.dmaCredit)
    (o : Fin 2 → ℕ) (h : ∀ a, o a + S1x128.size a ≤ S200x128.size a) (c : ℕ) (hc : c < 200) (ho : o = ![c, 0])
    {β : Type} (k : PUnit → Prog (Eff (F := F) L) β) (Q : β → sProp 𝕄) :
    (Idle d L X fx qt ql v sm : sProp 𝕄)
      ⊢ iprop((Going d L X I fx qt ql v sm c -∗ tw d L (k ⟨⟩) Q) -∗ tw d L (start L xV v (idxRow lV o h) sm >>= k) Q) := by
  have hin : ∀ x, ((idxRow lV o h).view.read (Elt F) fx x).toNat < S100000x128.size Facts₀.gathers_S100000x128_S128x128.axis := fun x => by
    rw [show (idxRow lV o h).view.read (Elt F) fx x = I (ix3 (wid L) (⟨c, hc⟩ : Fin 200) (x 0 : Fin 128)) from
      (congrArg fx (idxRow_emb o h c hc ho x)).trans (hfx _ _)]
    exact hI _
  iintro ⟨⟨%A, %f, %hf, Hv⟩, Ht, Hl, Hs⟩ Hk
  ihave Hl := (pointsTo_split_subset (q := ql) (f := fx) (S := Finset.univ) (Finset.subset_univ (idxRow lV o h).view.set)).1 $$ Hl
  icases Hl with ⟨Hl, Hlr⟩
  ihave Ht' := (Entails.of_eq (show (tabTok (F := F) d X qt : sProp 𝕄)
      = (tabAll xV).view.loc (VT d L) ↦[(tabAll xV).view.set]{qt} (X : Buf (Elt F) (xLoc d)) by rw [tabAll_set])) $$ Ht
  iapply (SparseCore.wp_indirectGatherLocal countersEmb 𝒱₀ (VT d L) none (hg := Facts₀.gathers_S100000x128_S128x128) (default : HIx 1)
      v.view.dmaCredit (hN _) (by decide) hin) $$ [Hv Ht' Hl Hs]
  · isplitl [Ht']; · iexact Ht'
    isplitl [Hv]; · iexact Hv
    isplitl [Hl]; · iexact Hl
    iexact Hs
  iintro Hfl
  iapply Hk
  iexists (idxRow lV o h).view.set
  isplitl [Hfl]
  · iapply (Transfers.Flight_mono (EC := countersEmb) ?_) $$ Hfl
    iintro ⟨Hv, Ht, Hl⟩
    isplitl [Hv]
    · iexists (v.view.write (Elt F) f (SparseCore.gatherPayload Facts₀.gathers_S100000x128_S128x128 ((tabAll xV).view.read (Elt F) X)
        (SparseCore.rows ((idxRow lV o h).view.read (Elt F) fx) rfl hin)) Finset.univ)
      isplitr
      · ipureintro
        exact (View.read_write_univ _ _).trans (payload_eq d L X I fx hfx hI o h c hc ho hin)
      iexact Hv
    isplitl [Ht]
    · iapply (Entails.of_eq (show (tabTok (F := F) d X qt : sProp 𝕄)
        = (tabAll xV).view.loc (VT d L) ↦[(tabAll xV).view.set]{qt} (X : Buf (Elt F) (xLoc d)) by rw [tabAll_set]).symm) $$ Ht
    iexact Hl
  iexact Hlr

theorem wp_await (v : Memref sig .scVector .vmem S128x128 .f32) (hv : v.view.WordExact) (sm : DmaSem sig) (c : ℕ)
    (O : CellTallies nD τ sig (HIx 1)) (W : Waits sig (HIx 1))
    {β : Type} (k : PUnit → Prog (Eff (F := F) L) β) (Q : β → sProp 𝕄) :
    iprop(Transfers.MayWaits (VT d L) (default : HIx 1) O ∗ Going d L X I fx qt ql v sm c ∗ owes (VT d L) O W)
      ⊢ iprop(((Holds d L v.view (gath X I (wid L) c) ∗ tabTok (F := F) d X qt ∗ listTok d L fx ql Finset.univ ∗ semVal ((VT d L), SemLoc.dma sm) 0
          ∗ owes (VT d L) O (insert (SemLoc.dma sm, (default : HIx 1)) W)) -∗ tw d L (k ⟨⟩) Q) -∗ tw d L (await L xV v hv sm >>= k) Q) := by
  iintro ⟨Hmw, ⟨%S, Hfl, Hlr⟩, HO⟩ Hk
  iapply (Transfers.wp_waitLocalO countersEmb 𝒱₀ (VT d L) none (default : HIx 1) (rfl : v.view.dmaCredit = _)) $$ [Hfl HO Hmw]
  · isplitl [Hfl]; · iexact Hfl
    isplitl [HO]; · iexact HO
    iapply (Transfers.MayWaits.elim (SemLoc.dma sm)) $$ Hmw
  iintro ⟨⟨Hv, Ht, Hl⟩, Hs, HO⟩
  iapply Hk
  isplitl [Hv]; · iexact Hv
  isplitl [Ht]; · iexact Ht
  isplitl [Hl Hlr]
  · iapply (pointsTo_split_subset (q := ql) (f := fx) (S := Finset.univ) (Finset.subset_univ S)).2
    isplitl [Hl] <;> iassumption
  isplitl [Hs]; · iexact Hs
  iexact HO

end Gather

end Cert.Proof.Run
-- ==== Proof.TileRun.lean ====
/-
  A tile run whole: the index row fetched, the chunks gathered four deep and summed, the partial sums written out.
-/
module

public import proofs.«01_k».proof.Proof.Gather

@[expose] public section

noncomputable section

namespace Cert.Proof.Run

open Cert.KernelIdeal Cert.KernelIdeal.Gen Cert.Proof.Tile Cert.Proof.Model

open Idealize.ShloMosaic Idealize.ShloMosaic.ValueIdx
open Idealize.ShloMosaic.SparseCore (V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] (d : Dev nD) (L : grid0.Coords)

section Run
variable (X : S100000x128.Idx → F .f32) (I : S32x200x128.Idx → BitVec 32) (fx : Buf (Elt F) (lLoc d L))

/-- What the tile owes, its waits so far recorded. -/
abbrev Ow (O : CellTallies nD τ sig (HIx 1)) (W : Waits sig (HIx 1)) : sProp 𝕄 :=
  iprop(∃ W', ⌜∀ p ∈ W', p ∈ W ∨ p.2 = none⌝ ∗ owes (VT d L) O W')

/-- A slab before its chunk `c`: the gather on the way while there is such a chunk, at rest after. -/
def St (qt ql : PosShare TreeShare) (v : Memref sig .scVector .vmem S128x128 .f32) (sm : DmaSem sig) (c : ℕ) : sProp 𝕄 :=
  if c < 200 then Going d L X I fx qt ql v sm c else Idle d L X fx qt ql v sm

theorem St_going (qt ql : PosShare TreeShare) (v : Memref sig .scVector .vmem S128x128 .f32) (sm : DmaSem sig) (c : ℕ) (h : c < 200) :
    (St d L X I fx qt ql v sm c : sProp 𝕄) = Going d L X I fx qt ql v sm c := if_pos h
theorem St_idle (qt ql : PosShare TreeShare) (v : Memref sig .scVector .vmem S128x128 .f32) (sm : DmaSem sig) (c : ℕ) (h : ¬ c < 200) :
    (St d L X I fx qt ql v sm c : sProp 𝕄) = Idle d L X fx qt ql v sm := if_neg h

theorem trip_lt (t : Fin k0_t1_loop.trips) : t.val < 50 := Nat.lt_of_lt_of_le t.isLt (by decide)

/-- One chunk: its rows waited for, summed, added in; the next gather into the slab issued. -/
theorem wp_chunk (hfx : ∀ (c : Fin 200) (r : Fin 128), fx (ix2 c r) = I (ix3 (wid L) c r)) (hI : ∀ j, (I j).toNat < 100000)
    (O : CellTallies nD τ sig (HIx 1)) (W : Waits sig (HIx 1)) (qt ql : PosShare TreeShare)
    (v : Memref sig .scVector .vmem S128x128 .f32) (hv : v.view.WordExact) (sm : DmaSem sig)
    (hN : ∀ h : S100000x128.Gathers 0 S128x128, ∑ j, (v.slice (S128x128.rowRect h.axis' j) (S128x128.stride_rowRect h.axis' j)).view.dmaCredit = v.view.dmaCredit)
    (t : Fin k0_t1_loop.trips) (b : Fin 4) (cond : BitVec 1) (hcond : cond = 1#1 ↔ t.val < 49)
    (o : Fin 2 → ℕ) (ho : cond = 1#1 → ∀ a, o a + S1x128.size a ≤ S200x128.size a) (hoe : o = ![4 * (t.val + 1) + b.val, 0])
    {β : Type} (k : PUnit → Prog (Eff (F := F) L) β) (Q : β → sProp 𝕄) :
    iprop(Transfers.MayWaits (VT d L) (default : HIx 1) O ∗ Ow d L O W ∗ Holds d L (aV).view (accN X I (wid L) (4 * t.val + b.val)) ∗ St d L X I fx qt ql v sm (4 * t.val + b.val))
      ⊢ iprop((iprop(Ow d L O W ∗ Holds d L (aV).view (accN X I (wid L) (4 * t.val + b.val + 1)) ∗ St d L X I fx qt ql v sm (4 * (t.val + 1) + b.val)) -∗ tw d L (k ⟨⟩) Q)
          -∗ tw d L (chunk L xV lV aV v hv sm t b cond o ho >>= k) Q) := by
  have ht : t.val < 50 := trip_lt t
  have hb : b.val < 4 := b.isLt
  rw [St_going d L X I fx qt ql v sm _ (by omega)]
  unfold chunk
  simp only [bind_assoc]
  iintro ⟨#Hmw, ⟨%W', %hW', HO⟩, Ha, Hv⟩ Hk
  iapply (wp_await d L X I fx qt ql v hv sm _ O W') $$ [HO Hv]
  · isplitr; · iexact Hmw
    isplitl [Hv]; · iexact Hv
    iexact HO
  iintro ⟨⟨%f, %hf, Hv⟩, Ht, Hl, Hs, HO⟩
  iapply (wp_chunkSum d L v f fullShare _ hf) $$ Hv; iintro Hv
  have hacc : accN X I (wid L) (4 * t.val + b.val + 1)
      = chunkAcc (accN X I (wid L) (4 * t.val + b.val)) (pos (wid L).val (4 * t.val + b.val)) (sums (gath X I (wid L) (4 * t.val + b.val)) 64) := rfl
  rw [hacc]
  rcases hs : sums (gath X I (wid L) (4 * t.val + b.val)) 64 with ⟨a0, a1, a2, a3, a4, a5, a6, a7⟩
  iapply (wp_accAdd d L aV _ _ _ _ (k0_off11_val L t b 0) _ _) $$ Ha; iintro Ha
  iapply (wp_accAdd d L aV _ _ _ _ (k0_off11_val L t b 1) _ _) $$ Ha; iintro Ha
  iapply (wp_accAdd d L aV _ _ _ _ (k0_off11_val L t b 2) _ _) $$ Ha; iintro Ha
  iapply (wp_accAdd d L aV _ _ _ _ (k0_off11_val L t b 3) _ _) $$ Ha; iintro Ha
  have hO' : ∀ p ∈ insert (SemLoc.dma sm, (default : HIx 1)) W', p ∈ W ∨ p.2 = none := by
    intro p hp
    rcases Finset.mem_insert.mp hp with rfl | hp
    · exact Or.inr rfl
    · exact hW' p hp
  by_cases hc : cond = 1#1
  · have h49 := hcond.mp hc
    rw [dif_pos hc, bind_assoc]
    iapply (wp_start d L X I fx qt ql hfx hI v sm hN o (ho hc) (4 * (t.val + 1) + b.val) (by omega) hoe) $$ [Hv Ht Hl Hs]
    · isplitl [Hv]; · iexists _; iexists f; isplitr; · ipureintro; exact hf
                      iexact Hv
      isplitl [Ht]; · iexact Ht
      isplitl [Hl]; · iexact Hl
      iexact Hs
    iintro Hg
    rw [St_going d L X I fx qt ql v sm _ (by omega)]
    iapply Hk
    isplitl [HO]; · iexists _; isplitr; · ipureintro; exact hO'
                    iexact HO
    isplitl [Ha]; · iexact Ha
    iexact Hg
  · have h49 : ¬ t.val < 49 := fun h => hc (hcond.mpr h)
    rw [dif_neg hc, St_idle d L X I fx qt ql v sm _ (by omega)]
    iapply Hk
    isplitl [HO]; · iexists _; isplitr; · ipureintro; exact hO'
                    iexact HO
    isplitl [Ha]; · iexact Ha
    isplitl [Hv]; · iexists _; iexists f; isplitr; · ipureintro; exact hf
                    iexact Hv
    isplitl [Ht]; · iexact Ht
    isplitl [Hl]; · iexact Hl
    iexact Hs

/-! ## The slabs -/

abbrev slabV (b : ℕ) (h : ∀ a, (![b, 0, 0] : Fin 3 → ℕ) a + S1x128x128.size a ≤ S4x128x128.size a) : Memref sig .scVector .vmem S128x128 .f32 := slab rV b h
abbrev v0 : Memref sig .scVector .vmem S128x128 .f32 := slab rV 0 Facts₀.inb_S4x128x128_S1x128x128_0_0_0
abbrev v1 : Memref sig .scVector .vmem S128x128 .f32 := slab rV 1 Facts₀.inb_S4x128x128_S1x128x128_1_0_0
abbrev v2 : Memref sig .scVector .vmem S128x128 .f32 := slab rV 2 Facts₀.inb_S4x128x128_S1x128x128_2_0_0
abbrev v3 : Memref sig .scVector .vmem S128x128 .f32 := slab rV 3 Facts₀.inb_S4x128x128_S1x128x128_3_0_0

theorem credit0 : ∀ h : S100000x128.Gathers 0 S128x128, ∑ j, ((v0).slice (S128x128.rowRect h.axis' j) (S128x128.stride_rowRect h.axis' j)).view.dmaCredit = (v0).view.dmaCredit := by decide
theorem credit1 : ∀ h : S100000x128.Gathers 0 S128x128, ∑ j, ((v1).slice (S128x128.rowRect h.axis' j) (S128x128.stride_rowRect h.axis' j)).view.dmaCredit = (v1).view.dmaCredit := credit0
theorem credit2 : ∀ h : S100000x128.Gathers 0 S128x128, ∑ j, ((v2).slice (S128x128.rowRect h.axis' j) (S128x128.stride_rowRect h.axis' j)).view.dmaCredit = (v2).view.dmaCredit := credit0
theorem credit3 : ∀ h : S100000x128.Gathers 0 S128x128, ∑ j, ((v3).slice (S128x128.rowRect h.axis' j) (S128x128.stride_rowRect h.axis' j)).view.dmaCredit = (v3).view.dmaCredit := credit0

/-- The four slabs before chunks `c`, …, `c + 3`; each holds a quarter of the tile's read share of the table, and a
    quarter of the list buffer's. -/
abbrev Slabs (q : PosShare TreeShare) (c : ℕ) : sProp 𝕄 :=
  iprop(St d L X I fx q.left.left fullShare.left.left v0 cc0_scratch3.sem (c + 0) ∗ St d L X I fx q.left.right fullShare.left.right v1 cc0_scratch4.sem (c + 1)
    ∗ St d L X I fx q.right.left fullShare.right.left v2 cc0_scratch5.sem (c + 2) ∗ St d L X I fx q.right.right fullShare.right.right v3 cc0_scratch6.sem (c + 3))

/-- A trip of the outer loop. -/
theorem wp_outer (hfx : ∀ (c : Fin 200) (r : Fin 128), fx (ix2 c r) = I (ix3 (wid L) c r)) (hI : ∀ j, (I j).toNat < 100000)
    (O : CellTallies nD τ sig (HIx 1)) (W : Waits sig (HIx 1)) (q : PosShare TreeShare) (t : Fin k0_t1_loop.trips) (Q : PUnit → sProp 𝕄) :
    iprop(Transfers.MayWaits (VT d L) (default : HIx 1) O ∗ Ow d L O W ∗ Holds d L (aV).view (accN X I (wid L) (4 * t.val)) ∗ Slabs d L X I fx q (4 * t.val))
      ⊢ iprop((iprop(Ow d L O W ∗ Holds d L (aV).view (accN X I (wid L) (4 * (t.val + 1))) ∗ Slabs d L X I fx q (4 * (t.val + 1))) -∗ Q ⟨⟩)
          -∗ tw d L (outer L xV lV rV aV t) Q) := by
  unfold outer
  iintro ⟨#Hmw, HO, Ha, H0, H1, H2, H3⟩ Hk
  iapply (wp_chunk d L X I fx hfx hI O W q.left.left fullShare.left.left v0 _ cc0_scratch3.sem credit0 t 0 _ (k0_cond1_val t) _ _ (k0_off12_eq t)) $$ [HO Ha H0]
  · isplitr; · iexact Hmw
    isplitl [HO]; · iexact HO
    isplitl [Ha]; · iexact Ha
    iexact H0
  iintro ⟨HO, Ha, H0⟩
  iapply (wp_chunk d L X I fx hfx hI O W q.left.right fullShare.left.right v1 _ cc0_scratch4.sem credit1 t 1 _ (k0_cond2_val t) _ _ (k0_off21_eq t)) $$ [HO Ha H1]
  · isplitr; · iexact Hmw
    isplitl [HO]; · iexact HO
    isplitl [Ha]; · iexact Ha
    iexact H1
  iintro ⟨HO, Ha, H1⟩
  iapply (wp_chunk d L X I fx hfx hI O W q.right.left fullShare.right.left v2 _ cc0_scratch5.sem credit2 t 2 _ (k0_cond3_val t) _ _ (k0_off30_eq t)) $$ [HO Ha H2]
  · isplitr; · iexact Hmw
    isplitl [HO]; · iexact HO
    isplitl [Ha]; · iexact Ha
    iexact H2
  iintro ⟨HO, Ha, H2⟩
  iapply (wp_chunk d L X I fx hfx hI O W q.right.right fullShare.right.right v3 _ cc0_scratch6.sem credit3 t 3 _ (k0_cond4_val t) _ _ (k0_off39_eq t)) $$ [HO Ha H3]
  · isplitr; · iexact Hmw
    isplitl [HO]; · iexact HO
    isplitl [Ha]; · iexact Ha
    iexact H3
  iintro ⟨HO, Ha, H3⟩
  iapply (tw_pure d L _ _)
  iapply Hk
  isplitl [HO]; · iexact HO
  isplitl [Ha]; · iexact Ha
  isplitl [H0]; · iexact H0
  isplitl [H1]; · iexact H1
  isplitl [H2]; · iexact H2
  iexact H3

/-! ## Where the views land -/

theorem slab_emb (b : ℕ) (h : ∀ a, (![b, 0, 0] : Fin 3 → ℕ) a + S1x128x128.size a ≤ S4x128x128.size a) (hb : b < 4) (x : S128x128.Idx) :
    (slab rV b h).view.emb x = ix3 (⟨b, hb⟩ : Fin 4) (x 0 : Fin 128) (x 1 : Fin 128) := by
  refine (congrArg (Rect.unit (s := S4x128x128) ![b, 0, 0] S1x128x128.size h).emb (Shape.reshapeEquiv_cons_one (d := ![128, 128]) Facts₀.squeezes_S1x128x128_S128x128.numel_eq.symm x)).trans ?_
  funext a
  refine Fin.ext ?_
  match a with
  | ⟨0, _⟩ => show b + 1 * 0 = b; omega
  | ⟨1, _⟩ => show 0 + 1 * (x 0).val = (x 0).val; omega
  | ⟨2, _⟩ => show 0 + 1 * (x 1).val = (x 1).val; omega

theorem mem_slab (b : ℕ) (h : ∀ a, (![b, 0, 0] : Fin 3 → ℕ) a + S1x128x128.size a ≤ S4x128x128.size a) (hb : b < 4) (i : S4x128x128.Idx) :
    i ∈ (slab rV b h).view.set ↔ (i 0).val = b := by
  constructor
  · intro hi
    obtain ⟨x, -, rfl⟩ := Finset.mem_map.mp hi
    exact congrArg (fun j : S4x128x128.Idx => (j 0).val) (slab_emb b h hb x)
  · intro hi
    refine Finset.mem_map.mpr ⟨ix2 (i 1 : Fin 128) (i 2 : Fin 128), Finset.mem_univ _, (slab_emb b h hb _).trans ?_⟩
    refine Eq.trans ?_ (eq_ix3 i).symm
    exact congrArg (fun z : Fin 4 => ix3 z (i 1 : Fin 128) (i 2 : Fin 128)) (Fin.ext hi.symm)

theorem idxSrc_emb (c : Fin 200) (r : Fin 128) : (idxSrc L iV).view.emb (ix2 c r) = ix3 (wid L) c r := by
  refine (congrArg (Rect.unit (s := S32x200x128) (k0_off1 L) S1x200x128.size (Facts₀.k0_off1_inb L)).emb
    (Shape.reshapeEquiv_cons_one (d := ![200, 128]) Facts₀.squeezes_S1x200x128_S200x128.numel_eq.symm (ix2 c r))).trans ?_
  funext a
  refine Fin.ext ?_
  have e : k0_off1 L a = (![2 * (L 1).val + (L 0).val, 0, 0] : Fin 3 → ℕ) a := congrFun (k0_off1_eq L) a
  match a with
  | ⟨0, _⟩ => show k0_off1 L 0 + 1 * 0 = 2 * (L 1).val + (L 0).val; exact e
  | ⟨1, _⟩ => show k0_off1 L 1 + 1 * c.val = c.val; rw [show k0_off1 L 1 = 0 from e]; omega
  | ⟨2, _⟩ => show k0_off1 L 2 + 1 * r.val = r.val; rw [show k0_off1 L 2 = 0 from e]; omega

theorem outDst_emb (x : S3200.Idx) : (outDst L oV).view.emb x = ix2 (wid L) (x 0 : Fin 3200) := by
  refine (congrArg (Rect.unit (s := S32x3200) (k0_off40 L) S1x3200.size (Facts₀.k0_off40_inb L)).emb
    (Shape.reshapeEquiv_cons_one (d := ![3200]) Facts₀.squeezes_S1x3200_S3200.numel_eq.symm x)).trans ?_
  funext a
  refine Fin.ext ?_
  have e : k0_off40 L a = (![2 * (L 1).val + (L 0).val, 0] : Fin 2 → ℕ) a := congrFun (k0_off40_eq L) a
  match a with
  | ⟨0, _⟩ => show k0_off40 L 0 + 1 * 0 = 2 * (L 1).val + (L 0).val; exact e
  | ⟨1, _⟩ => show k0_off40 L 1 + 1 * (x 0).val = (x 0).val; rw [show k0_off40 L 1 = 0 from e]; omega

/-! ## A buffer's four quarters -/

abbrev rLoc (d : Dev nD) (L : grid0.Coords) : Loc nD τ sig := (VT d L).loc cc0_scratch1

theorem cover : (Finset.univ : Finset S4x128x128.Idx) = (v0).view.set ∪ ((v1).view.set ∪ ((v2).view.set ∪ (v3).view.set)) := by
  symm
  refine Finset.eq_univ_iff_forall.mpr fun i => ?_
  have h : (i 0).val < 4 := (i 0).isLt
  simp only [Finset.mem_union, mem_slab 0 _ (by decide) i, mem_slab 1 _ (by decide) i, mem_slab 2 _ (by decide) i, mem_slab 3 _ (by decide) i]
  omega

theorem disj2 : Disjoint (v2).view.set (v3).view.set := Finset.disjoint_left.mpr fun i h2 h3 => by
  have a := (mem_slab 2 _ (by decide) i).mp h2
  have b := (mem_slab 3 _ (by decide) i).mp h3
  omega
theorem disj1 : Disjoint (v1).view.set ((v2).view.set ∪ (v3).view.set) := Finset.disjoint_left.mpr fun i h1 h => by
  have a := (mem_slab 1 _ (by decide) i).mp h1
  rcases Finset.mem_union.mp h with h | h
  · have b := (mem_slab 2 _ (by decide) i).mp h; omega
  · have b := (mem_slab 3 _ (by decide) i).mp h; omega
theorem disj0 : Disjoint (v0).view.set ((v1).view.set ∪ ((v2).view.set ∪ (v3).view.set)) := Finset.disjoint_left.mpr fun i h0 h => by
  have a := (mem_slab 0 _ (by decide) i).mp h0
  rcases Finset.mem_union.mp h with h | h
  · have b := (mem_slab 1 _ (by decide) i).mp h; omega
  rcases Finset.mem_union.mp h with h | h
  · have b := (mem_slab 2 _ (by decide) i).mp h; omega
  · have b := (mem_slab 3 _ (by decide) i).mp h; omega

/-- The row buffer is its four slabs, -/
theorem slabs_split (f : Buf (Elt F) (rLoc d L)) :
    (rLoc d L ↦{fullShare} f : sProp 𝕄)
      ⊢ iprop((∃ A, Holds d L (v0).view A) ∗ (∃ A, Holds d L (v1).view A) ∗ (∃ A, Holds d L (v2).view A) ∗ (∃ A, Holds d L (v3).view A)) := by
  rw [show (rLoc d L ↦{fullShare} f : sProp 𝕄) = (rLoc d L ↦[(v0).view.set ∪ ((v1).view.set ∪ ((v2).view.set ∪ (v3).view.set))]{fullShare} f) from
    congrArg (fun S => (rLoc d L ↦[S]{fullShare} f : sProp 𝕄)) cover]
  iintro H
  ihave H := (pointsTo_union disj0).1 $$ H; icases H with ⟨H0, H⟩
  ihave H := (pointsTo_union disj1).1 $$ H; icases H with ⟨H1, H⟩
  ihave H := (pointsTo_union disj2).1 $$ H; icases H with ⟨H2, H3⟩
  isplitl [H0]; · iexists _; iexists f; isplitr; · ipureintro; rfl
                  iexact H0
  isplitl [H1]; · iexists _; iexists f; isplitr; · ipureintro; rfl
                  iexact H1
  isplitl [H2]; · iexists _; iexists f; isplitr; · ipureintro; rfl
                  iexact H2
  iexists _; iexists f; isplitr; · ipureintro; rfl
  iexact H3

/-- and its slabs, at any contents, are the row buffer. -/
theorem slabs_join :
    iprop((∃ A, Holds d L (v0).view A) ∗ (∃ A, Holds d L (v1).view A) ∗ (∃ A, Holds d L (v2).view A) ∗ (∃ A, Holds d L (v3).view A))
      ⊢ (iprop(∃ f, rLoc d L ↦{fullShare} f) : sProp 𝕄) := by
  iintro ⟨⟨%A0, %f0, -, H0⟩, ⟨%A1, %f1, -, H1⟩, ⟨%A2, %f2, -, H2⟩, ⟨%A3, %f3, -, H3⟩⟩
  ihave H := (pointsTo_join (ℓ := rLoc d L) (q := fullShare) (f := f2) (g := f3) disj2) $$ [H2 H3]
  · isplitl [H2]; · iexact H2
    iexact H3
  ihave H := (pointsTo_join (ℓ := rLoc d L) (q := fullShare) (f := f1) disj1) $$ [H1 H]
  · isplitl [H1]; · iexact H1
    iexact H
  ihave H := (pointsTo_join (ℓ := rLoc d L) (q := fullShare) (f := f0) disj0) $$ [H0 H]
  · isplitl [H0]; · iexact H0
    iexact H
  iexists _
  iapply (Entails.of_eq (congrArg (fun S => (rLoc d L ↦[S]{fullShare} _ : sProp 𝕄)) cover).symm) $$ H

/-- A share held is its four quarters. -/
theorem quarters {ℓ : Loc nD τ sig} (q : PosShare TreeShare) (f : Buf (Elt F) ℓ) :
    (ℓ ↦[Finset.univ]{q} f : sProp 𝕄)
      ⊣⊢ iprop((ℓ ↦[Finset.univ]{q.left.left} f) ∗ (ℓ ↦[Finset.univ]{q.left.right} f) ∗ (ℓ ↦[Finset.univ]{q.right.left} f) ∗ (ℓ ↦[Finset.univ]{q.right.right} f)) := by
  have h : ∀ p : PosShare TreeShare, (ℓ ↦[Finset.univ]{p} f : sProp 𝕄) ⊣⊢ iprop((ℓ ↦[Finset.univ]{p.left} f) ∗ ℓ ↦[Finset.univ]{p.right} f) :=
    fun p => pointsTo_share (PosShare.mem_left_op_right p)
  constructor
  · iintro H
    ihave H := (h q).1 $$ H; icases H with ⟨H, H'⟩
    ihave H := (h q.left).1 $$ H; icases H with ⟨H0, H1⟩
    ihave H' := (h q.right).1 $$ H'; icases H' with ⟨H2, H3⟩
    isplitl [H0]; · iexact H0
    isplitl [H1]; · iexact H1
    isplitl [H2]; · iexact H2
    iexact H3
  · iintro ⟨H0, H1, H2, H3⟩
    iapply (h q).2
    isplitl [H0 H1]
    · iapply (h q.left).2; isplitl [H0]; · iexact H0
      iexact H1
    · iapply (h q.right).2; isplitl [H2]; · iexact H2
      iexact H3

/-! ## The tile -/

/-- The six cells the task names, at zero. -/
abbrev cells0 (d : Dev nD) (L : grid0.Coords) : sProp 𝕄 :=
  iprop(semVal (VT d L, SemLoc.dma cc0_scratch3.sem) 0 ∗ semVal (VT d L, SemLoc.dma cc0_scratch4.sem) 0 ∗ semVal (VT d L, SemLoc.dma cc0_scratch5.sem) 0
    ∗ semVal (VT d L, SemLoc.dma cc0_scratch6.sem) 0 ∗ semVal (VT d L, SemLoc.dma cc0_scoped0.sem) 0 ∗ semVal (VT d L, SemLoc.dma cc0_scoped1.sem) 0)

/-- A tile's scratch buffers. -/
abbrev bufs (d : Dev nD) (L : grid0.Coords) : sProp 𝕄 :=
  iprop((∃ f, (VT d L).loc cc0_scratch0 ↦{fullShare} f) ∗ (∃ f, (VT d L).loc cc0_scratch1 ↦{fullShare} f) ∗ (∃ f, (VT d L).loc cc0_scratch2 ↦{fullShare} f))

theorem tile_run (hI : ∀ j, (I j).toNat < 100000)
    (O : CellTallies nD τ sig (HIx 1)) (W : Waits sig (HIx 1)) (q : PosShare TreeShare) (fo : Buf (Elt F) (oLoc d)) (Q : PUnit → sProp 𝕄) :
    iprop(Transfers.MayWaits (VT d L) (default : HIx 1) O
        ∗ ((iLoc d ↦[(idxSrc L iV).view.set]{fullShare} (I : Buf (Elt F) (iLoc d))) ∗ tabTok (F := F) d X q ∗ (oLoc d ↦[(outDst L oV).view.set]{fullShare} fo))
        ∗ bufs d L ∗ cells0 d L ∗ owes (VT d L) O W)
      ⊢ iprop((iprop(((iLoc d ↦[(idxSrc L iV).view.set]{fullShare} (I : Buf (Elt F) (iLoc d))) ∗ tabTok (F := F) d X q
            ∗ (oLoc d ↦[(outDst L oV).view.set]{fullShare} (PV X I : Buf (Elt F) (oLoc d))))
          ∗ bufs d L ∗ cells0 d L ∗ Ow d L O W) -∗ Q ⟨⟩)
        -∗ tw d L (kern L iV xV oV lV (Memref.isWhole_whole _) rV aV (Memref.isWhole_whole _)) Q) := by
  unfold kern kernWith
  iintro ⟨#Hmw, ⟨Hi, Ht, Ho⟩, ⟨⟨%fl, Hl⟩, ⟨%fr, Hr⟩, ⟨%fa, Ha⟩⟩, ⟨Hs0, Hs1, Hs2, Hs3, Hs4, Hs5⟩, HO⟩ Hk
  -- the index row fetched
  iapply (Transfers.wp_dmaLocal countersEmb 𝒱₀ (VT d L) none (sm := SemLoc.dma cc0_scoped0.sem) (src := idxSrc L iV) (dst := lV) (default : HIx 1) _ rfl (View.dmaCredit_pos _ (by decide)) (Finset.subset_univ _)) $$ [Hi Hl Hs4]
  · isplitl [Hi]; · iexact Hi
    isplitl [Hl]; · iexact Hl
    iexact Hs4
  iintro Hfl
  iapply (Transfers.wp_waitLocalO countersEmb 𝒱₀ (VT d L) none (default : HIx 1) (rfl : (lV).view.dmaCredit = _)) $$ [Hfl HO]
  · isplitl [Hfl]; · iexact Hfl
    isplitl [HO]; · iexact HO
    iapply (Transfers.MayWaits.elim (SemLoc.dma cc0_scoped0.sem)) $$ Hmw
  iintro ⟨⟨Hl, Hi⟩, Hs4, HO⟩
  have hlw : ∀ (c : Fin 200) (r : Fin 128), ((lV).view.write (Elt F) fl ((idxSrc L iV).view.read (Elt F) I) Finset.univ : Buf (Elt F) (lLoc d L)) (ix2 c r) = I (ix3 (wid L) c r) := fun c r => by
    have h := congrFun (View.read_write_univ (v := (lV).view) (Val := Elt F) fl ((idxSrc L iV).view.read (Elt F) I)) (ix2 c r)
    exact h.trans (congrArg I (idxSrc_emb L c r))
  ihave Hl := (show ((lV).view.loc (VT d L) ↦[Finset.univ]{fullShare} (lV).view.write (Elt F) fl ((idxSrc L iV).view.read (Elt F) I) Finset.univ : sProp 𝕄)
    ⊢ listTok d L ((lV).view.write (Elt F) fl ((idxSrc L iV).view.read (Elt F) I) Finset.univ) fullShare Finset.univ from BI.BIBase.Entails.rfl) $$ Hl
  generalize hfx : (lV).view.write (Elt F) fl ((idxSrc L iV).view.read (Elt F) I) Finset.univ = fx
  rw [hfx] at hlw
  -- the accumulator zeroed
  have haw : (aV).view.set = Finset.univ := View.set_whole _
  iapply (wp_zeros d L aV _ _ 200 (Nat.le_refl _) ((aV).view.read (Elt F) fa) (fun j h => absurd h (Nat.not_lt_zero _))) $$ [Ha]
  · iexists fa
    isplitr; · ipureintro; rfl
    rw [haw]; iexact Ha
  iintro Ha
  -- the four gathers
  ihave Hr := (slabs_split (F := F) d L fr) $$ Hr
  icases Hr with ⟨Hr0, Hr1, Hr2, Hr3⟩
  ihave Ht := (quarters (F := F) q _).1 $$ Ht
  icases Ht with ⟨Ht0, Ht1, Ht2, Ht3⟩
  ihave Hl := (quarters (F := F) fullShare _).1 $$ Hl
  icases Hl with ⟨Hl0, Hl1, Hl2, Hl3⟩
  iapply (wp_start d L X I fx q.left.left fullShare.left.left hlw hI v0 cc0_scratch3.sem credit0 _ _ 0 (by decide) rfl) $$ [Hr0 Ht0 Hl0 Hs0]
  · isplitl [Hr0]; · iexact Hr0
    isplitl [Ht0]; · iexact Ht0
    isplitl [Hl0]; · iexact Hl0
    iexact Hs0
  iintro H0
  iapply (wp_start d L X I fx q.left.right fullShare.left.right hlw hI v1 cc0_scratch4.sem credit1 _ _ 1 (by decide) rfl) $$ [Hr1 Ht1 Hl1 Hs1]
  · isplitl [Hr1]; · iexact Hr1
    isplitl [Ht1]; · iexact Ht1
    isplitl [Hl1]; · iexact Hl1
    iexact Hs1
  iintro H1
  iapply (wp_start d L X I fx q.right.left fullShare.right.left hlw hI v2 cc0_scratch5.sem credit2 _ _ 2 (by decide) rfl) $$ [Hr2 Ht2 Hl2 Hs2]
  · isplitl [Hr2]; · iexact Hr2
    isplitl [Ht2]; · iexact Ht2
    isplitl [Hl2]; · iexact Hl2
    iexact Hs2
  iintro H2
  iapply (wp_start d L X I fx q.right.right fullShare.right.right hlw hI v3 cc0_scratch6.sem credit3 _ _ 3 (by decide) rfl) $$ [Hr3 Ht3 Hl3 Hs3]
  · isplitl [Hr3]; · iexact Hr3
    isplitl [Ht3]; · iexact Ht3
    isplitl [Hl3]; · iexact Hl3
    iexact Hs3
  iintro H3
  -- the loop
  iapply (Scf.wp_for_bind frame (wpE (defs₀ (F := F)) 𝒱₀ (VT d L) none) Set.univ _ _ _ Facts₀.k0_t1_ok _ (fun t _ => outer L xV lV rV aV t)
    (fun t _ => iprop(Transfers.MayWaits (VT d L) (default : HIx 1) O ∗ Ow d L O W ∗ Holds d L (aV).view (accN X I (wid L) (4 * t)) ∗ Slabs d L X I fx q (4 * t))) ?_) $$ [HO Ha H0 H1 H2 H3]
  · intro t _
    iintro ⟨#Hmw, H⟩
    iapply (wp_outer d L X I fx hlw hI O W q t _) $$ [H]
    · isplitr; · iexact Hmw
      iexact H
    iintro H
    isplitr; · iexact Hmw
    iexact H
  · isplitr; · iexact Hmw
    isplitl [HO]
    · iexists _; isplitr; rotate_left
      · iexact HO
      · ipureintro
        intro p hp
        rcases Finset.mem_insert.mp hp with rfl | hp
        · exact Or.inr rfl
        · exact Or.inl hp
    isplitl [Ha]; · iexact Ha
    isplitl [H0]; · iapply (Entails.of_eq (St_going d L X I fx _ _ v0 _ 0 (by decide)).symm) $$ H0
    isplitl [H1]; · iapply (Entails.of_eq (St_going d L X I fx _ _ v1 _ 1 (by decide)).symm) $$ H1
    isplitl [H2]; · iapply (Entails.of_eq (St_going d L X I fx _ _ v2 _ 2 (by decide)).symm) $$ H2
    iapply (Entails.of_eq (St_going d L X I fx _ _ v3 _ 3 (by decide)).symm) $$ H3
  iintro %_ H
  rw [show Scf.trips k0_t1_loop.lb k0_t1_loop.ub k0_t1_loop.st = 50 by decide]
  icases H with ⟨-, ⟨%W', %hW', HO⟩, ⟨%f, %hf, Ha⟩, H⟩
  icases H with ⟨H0, H1, H2, H3⟩
  ihave H0 := (Entails.of_eq (St_idle d L X I fx q.left.left fullShare.left.left v0 cc0_scratch3.sem (4 * 50 + 0) (by decide))) $$ H0
  ihave H1 := (Entails.of_eq (St_idle d L X I fx q.left.right fullShare.left.right v1 cc0_scratch4.sem (4 * 50 + 1) (by decide))) $$ H1
  ihave H2 := (Entails.of_eq (St_idle d L X I fx q.right.left fullShare.right.left v2 cc0_scratch5.sem (4 * 50 + 2) (by decide))) $$ H2
  ihave H3 := (Entails.of_eq (St_idle d L X I fx q.right.right fullShare.right.right v3 cc0_scratch6.sem (4 * 50 + 3) (by decide))) $$ H3
  icases H0 with ⟨Hr0, Ht0, Hl0, Hs0⟩
  icases H1 with ⟨Hr1, Ht1, Hl1, Hs1⟩
  icases H2 with ⟨Hr2, Ht2, Hl2, Hs2⟩
  icases H3 with ⟨Hr3, Ht3, Hl3, Hs3⟩
  -- the partial sums written out
  iapply (Transfers.wp_dmaLocal countersEmb 𝒱₀ (VT d L) none (sm := SemLoc.dma cc0_scoped1.sem) (src := aV) (dst := outDst L oV) (default : HIx 1) _ rfl (View.dmaCredit_pos _ (by decide)) (Finset.Subset.refl _)) $$ [Ha Ho Hs5]
  · isplitl [Ha]; · iexact Ha
    isplitl [Ho]; · iexact Ho
    iexact Hs5
  iintro Hfl
  iapply (Transfers.wp_waitLocalO countersEmb 𝒱₀ (VT d L) none (default : HIx 1) (rfl : (outDst L oV).view.dmaCredit = _)) $$ [Hfl HO]
  · isplitl [Hfl]; · iexact Hfl
    isplitl [HO]; · iexact HO
    iapply (Transfers.MayWaits.elim (SemLoc.dma cc0_scoped1.sem)) $$ Hmw
  iintro ⟨⟨Ho, Ha⟩, Hs5, HO⟩
  iapply (tw_pure d L _ _)
  iapply Hk
  isplitl [Hi Ho Ht0 Ht1 Ht2 Ht3]
  · isplitl [Hi]; · iexact Hi
    isplitl [Ht0 Ht1 Ht2 Ht3]
    · iapply (quarters (F := F) q _).2
      isplitl [Ht0]; · iexact Ht0
      isplitl [Ht1]; · iexact Ht1
      isplitl [Ht2]; · iexact Ht2
      iexact Ht3
    · iapply (Entails.of_eq (pointsTo_congr ?_)) $$ Ho
      intro i hi
      obtain ⟨x, -, rfl⟩ := Finset.mem_map.mp hi
      refine (View.write_emb_of_mem _ _ (Finset.mem_univ _)).trans ?_
      refine (show _ = (aV).view.read (Elt F) f x from rfl).trans ?_
      rw [hf, outDst_emb]
      exact congrArg (accN X I (wid L) 200) (eq_ix1 x)
  isplitl [Ha Hr0 Hr1 Hr2 Hr3 Hl0 Hl1 Hl2 Hl3]
  · isplitl [Hl0 Hl1 Hl2 Hl3]
    · iexists fx
      iapply (quarters (F := F) fullShare _).2
      isplitl [Hl0]; · iexact Hl0
      isplitl [Hl1]; · iexact Hl1
      isplitl [Hl2]; · iexact Hl2
      iexact Hl3
    isplitl [Hr0 Hr1 Hr2 Hr3]
    · iapply (slabs_join (F := F) d L)
      isplitl [Hr0]; · iexact Hr0
      isplitl [Hr1]; · iexact Hr1
      isplitl [Hr2]; · iexact Hr2
      iexact Hr3
    iexists f
    rw [← haw]; iexact Ha
  isplitl [Hs0 Hs1 Hs2 Hs3 Hs4 Hs5]
  · isplitl [Hs0]; · iexact Hs0
    isplitl [Hs1]; · iexact Hs1
    isplitl [Hs2]; · iexact Hs2
    isplitl [Hs3]; · iexact Hs3
    isplitl [Hs4]; · iexact Hs4
    iexact Hs5
  iexists _
  isplitr; rotate_left
  · iexact HO
  · ipureintro
    intro p hp
    rcases Finset.mem_insert.mp hp with rfl | hp
    · exact Or.inr rfl
    · exact hW' p hp

end Run

end Cert.Proof.Run
-- ==== Proof.Call.lean ====
/-
  The SparseCore call: what it takes and hands back, and how the 32 tiles share it. Each tile takes its row of the
  indices, a share of the table and its row of the partial sums' array, and brings them back with its partial sums.
-/
module

public import proofs.«01_k».proof.Proof.TileRun
public import proofs.«01_k».proof.Proof.Gen.KernelIdeal.Launch

@[expose] public section

noncomputable section

namespace Cert.Proof.Run

open Cert.KernelIdeal Cert.KernelIdeal.Gen Cert.Proof.Tile Cert.Proof.Model

open Idealize.ShloMosaic Idealize.ShloMosaic.ValueIdx
open Idealize.ShloMosaic.SparseCore (V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The tiles' pieces -/

/-- The tile of SparseCore `c`, subcore `s`. -/
def coordsV (c : Fin (grid0.bound 0)) (s : Fin (grid0.bound 1)) : grid0.Coords :=
  fun | 0 => c | 1 => s | ⟨_ + 2, h⟩ => absurd h (Nat.not_lt.2 (Nat.le_add_left _ _))

/-- The tile's coordinates, from the pair. -/
def tl (p : Fin 2 × Fin 16) : grid0.Coords := coordsV p.1 p.2

abbrev iSet (p : Fin 2 × Fin 16) : Finset S32x200x128.Idx := (idxSrc (tl p) iV).view.set
abbrev oSet (p : Fin 2 × Fin 16) : Finset S32x3200.Idx := (outDst (tl p) oV).view.set
/-- A tile's share of the table. -/
def xSh (p : Fin 2 × Fin 16) : PosShare TreeShare := pieceOf (pieceOf fullShare 2 (by decide) p.1) 16 (by decide) p.2

theorem wid_val (p : Fin 2 × Fin 16) : (wid (tl p)).val = 2 * p.2.val + p.1.val := rfl

theorem mem_iSet (p : Fin 2 × Fin 16) (j : S32x200x128.Idx) : j ∈ iSet p ↔ (j 0).val = 2 * p.2.val + p.1.val := by
  constructor
  · intro h
    obtain ⟨x, -, rfl⟩ := Finset.mem_map.mp h
    obtain ⟨c, r, rfl⟩ : ∃ (c : Fin 200) (r : Fin 128), x = ix2 c r := ⟨x 0, x 1, eq_ix2 x⟩
    rw [idxSrc_emb]; rfl
  · intro h
    refine Finset.mem_map.mpr ⟨ix2 (n0 := 200) (n1 := 128) (j 1) (j 2), Finset.mem_univ _, (idxSrc_emb (tl p) _ _).trans ?_⟩
    funext a
    match a with
    | ⟨0, _⟩ => exact Fin.ext h.symm
    | ⟨1, _⟩ => rfl
    | ⟨2, _⟩ => rfl

theorem mem_oSet (p : Fin 2 × Fin 16) (j : S32x3200.Idx) : j ∈ oSet p ↔ (j 0).val = 2 * p.2.val + p.1.val := by
  constructor
  · intro h
    obtain ⟨x, -, rfl⟩ := Finset.mem_map.mp h
    rw [outDst_emb]; rfl
  · intro h
    refine Finset.mem_map.mpr ⟨ix1 (j 1), Finset.mem_univ _, ?_⟩
    rw [outDst_emb]
    funext a
    match a with
    | ⟨0, _⟩ => exact Fin.ext h.symm
    | ⟨1, _⟩ => rfl

theorem tile_ext (p p' : Fin 2 × Fin 16) (h : 2 * p.2.val + p.1.val = 2 * p'.2.val + p'.1.val) : p = p' := by
  have := p.1.isLt; have := p'.1.isLt
  exact Prod.ext (Fin.ext (by omega)) (Fin.ext (by omega))

theorem iSet_disjoint : ∀ p ∈ (Finset.univ : Finset (Fin 2 × Fin 16)), ∀ p' ∈ (Finset.univ : Finset (Fin 2 × Fin 16)), p ≠ p' → Disjoint (iSet p) (iSet p') := by
  intro p _ p' _ hne
  refine Finset.disjoint_left.mpr fun j h h' => hne (tile_ext p p' ?_)
  rw [← (mem_iSet p j).mp h, (mem_iSet p' j).mp h']
theorem oSet_disjoint : ∀ p ∈ (Finset.univ : Finset (Fin 2 × Fin 16)), ∀ p' ∈ (Finset.univ : Finset (Fin 2 × Fin 16)), p ≠ p' → Disjoint (oSet p) (oSet p') := by
  intro p _ p' _ hne
  refine Finset.disjoint_left.mpr fun j h h' => hne (tile_ext p p' ?_)
  rw [← (mem_oSet p j).mp h, (mem_oSet p' j).mp h']

theorem iSet_cover : (Finset.univ : Finset (Fin 2 × Fin 16)).biUnion iSet = Finset.univ := by
  refine Finset.eq_univ_of_forall fun j => Finset.mem_biUnion.mpr ?_
  have h0 : (j 0).val < 32 := (j 0).isLt
  refine ⟨(⟨(j 0).val % 2, by omega⟩, ⟨(j 0).val / 2, by omega⟩), Finset.mem_univ _, ?_⟩
  rw [mem_iSet]
  show (j 0).val = 2 * ((j 0).val / 2) + (j 0).val % 2
  omega
theorem oSet_cover : (Finset.univ : Finset (Fin 2 × Fin 16)).biUnion oSet = Finset.univ := by
  refine Finset.eq_univ_of_forall fun j => Finset.mem_biUnion.mpr ?_
  have h0 : (j 0).val < 32 := (j 0).isLt
  refine ⟨(⟨(j 0).val % 2, by omega⟩, ⟨(j 0).val / 2, by omega⟩), Finset.mem_univ _, ?_⟩
  rw [mem_oSet]
  show (j 0).val = 2 * ((j 0).val / 2) + (j 0).val % 2
  omega

theorem whole_i (d : Dev nD) (f : Buf (Elt F) (iLoc d)) :
    (iLoc d ↦{fullShare} f : sProp 𝕄) = bigSep Finset.univ fun p : Fin 2 × Fin 16 => iLoc d ↦[iSet p]{fullShare} f := by
  rw [← pointsTo_biUnion Finset.univ (ℓ := iLoc d) iSet iSet_disjoint, iSet_cover]; try rfl
theorem whole_o (d : Dev nD) (f : Buf (Elt F) (oLoc d)) :
    (oLoc d ↦{fullShare} f : sProp 𝕄) = bigSep Finset.univ fun p : Fin 2 × Fin 16 => oLoc d ↦[oSet p]{fullShare} f := by
  rw [← pointsTo_biUnion Finset.univ (ℓ := oLoc d) oSet oSet_disjoint, oSet_cover]; try rfl
theorem whole_x (d : Dev nD) (f : Buf (Elt F) (xLoc d)) :
    (xLoc d ↦{fullShare} f : sProp 𝕄) = bigSep Finset.univ fun p : Fin 2 × Fin 16 => xLoc d ↦[Finset.univ]{xSh p} f := by
  rw [BI.bigSep_univ_prod, pointsTo_piecesOf Finset.univ f (o := 2) (by decide) fullShare]
  refine bigSep_congr fun c _ => ?_
  rw [pointsTo_piecesOf Finset.univ f (o := 16) (by decide)]
  rfl

/-! ## What the handshakes carry -/

attribute [local irreducible] PV

variable (X : Dev nD → S100000x128.Idx → F .f32) (I : Dev nD → S32x200x128.Idx → BitVec 32) (fo : (d : Dev nD) → Buf (Elt F) (oLoc d))

/-- A tile's pieces, the partial sums' row at `f`. -/
abbrev piece (d : Dev nD) (f : Buf (Elt F) (oLoc d)) (p : Fin 2 × Fin 16) : sProp 𝕄 :=
  iprop((iLoc d ↦[iSet p]{fullShare} I d) ∗ tabTok d (X d) (xSh p) ∗ (oLoc d ↦[oSet p]{fullShare} f))

abbrev all (d : Dev nD) (f : Buf (Elt F) (oLoc d)) : sProp 𝕄 :=
  iprop((iLoc d ↦{fullShare} I d) ∗ (xLoc d ↦{fullShare} X d) ∗ (oLoc d ↦{fullShare} f))

theorem all_pieces (d : Dev nD) (f : Buf (Elt F) (oLoc d)) :
    all X I d f = bigSep Finset.univ fun c : Fin 2 => bigSep Finset.univ fun s : Fin 16 => piece X I d f (c, s) := by
  have h := BI.bigSep_univ_prod (fun p : Fin 2 × Fin 16 => piece X I d f p)
  rw [← h, bigSep_sep', bigSep_sep']
  unfold all
  rw [whole_i, whole_x, whole_o]

variable [FloatOps F]

abbrev tileOf (c : Fin ((K (F := F)).nCore 0)) (s : Fin ((K (F := F)).nSub 0)) : Fin 2 × Fin 16 := (c, s)

def P : (K (F := F)).Pay (nD := nD) (Val := Elt F) (Name := ℕ) (U := UU) where
  st := fun q d => match q with | 0 => fun c => bigSep Finset.univ fun s : Fin 16 => piece X I d (fo d) (tileOf c s)
  dn := fun q d => match q with | 0 => fun c => bigSep Finset.univ fun s : Fin 16 => piece X I d (PV (X d) (I d)) (tileOf c s)
  go := fun q d => match q with | 0 => fun c s => piece X I d (fo d) (tileOf c s)
  td := fun q d => match q with | 0 => fun c s => piece X I d (PV (X d) (I d)) (tileOf c s)
  x := fun _ _ => iprop(emp)

instance piece_storable (d : Dev nD) (f : Buf (Elt F) (oLoc d)) (p : Fin 2 × Fin 16) : BI.Storable (upEmb : UEmb _ 𝕄) (piece X I d f p) :=
  inferInstance

instance P_storable : (P X I fo).IsStorable where
  st q d := match q with
    | 0 => fun c => (inferInstance : BI.Storable (upEmb : UEmb _ 𝕄) (bigSep Finset.univ fun s : Fin 16 => piece X I d (fo d) (tileOf c s)))
  dn q d := match q with
    | 0 => fun c => (inferInstance : BI.Storable (upEmb : UEmb _ 𝕄) (bigSep Finset.univ fun s : Fin 16 => piece X I d (PV (X d) (I d)) (tileOf c s)))
  go q d := match q with
    | 0 => fun c s => piece_storable X I d (fo d) (tileOf c s)
  td q d := match q with
    | 0 => fun c s => piece_storable X I d (PV (X d) (I d)) (tileOf c s)

/-! ## The tile's own buffers and cells -/

section Tile
variable (d : Dev nD) (L : grid0.Coords)

abbrev dcell (k : Fin 6) : GSem nD τ sig := (VT d L, SemLoc.dma ⟨k.val, by have := k.isLt; show k.val < 13; omega⟩)

theorem dcell_mem (k : Fin 6) : dcell d L k ∈ ownCells (τ := τ) (sig := sig) (VT d L) := by
  refine mem_ownCells.mpr ⟨rfl, ?_⟩
  show (SemLoc.dma ⟨k.val, _⟩ : SemLoc sig).isScoped .scVector = true
  revert k; decide

theorem ownSems0_V :
    (ownSems0 (VT d L) : sProp 𝕄)
      = iprop(cells0 d L ∗ bigSep ((ownCells (VT d L)) \ Finset.univ.image (dcell d L)) fun g => semVal g 0) := by
  unfold SparseCore.Cfg.ownSems0
  rw [SparseCore.bigSep_sdiff_split' (t := Finset.univ.image (dcell d L)) (Finset.image_subset_iff.mpr fun k _ => dcell_mem d L k),
    SparseCore.bigSep_image_of_injOn (fun a _ b _ h => by
      have := congrArg (fun g : GSem nD τ sig => g.2) h
      simp only [SemLoc.dma.injEq, Fin.mk.injEq] at this; exact Fin.ext this)]
  rw [show (Finset.univ : Finset (Fin 6)) = {0, 1, 2, 3, 4, 5} by decide,
    SparseCore.bigSep_insert' (by decide), SparseCore.bigSep_insert' (by decide), SparseCore.bigSep_insert' (by decide),
    SparseCore.bigSep_insert' (by decide), SparseCore.bigSep_insert' (by decide), bigSep_singleton]
  rfl

abbrev tref (b : Ref sig .scVector) : DevRef τ sig := (Proc.scVector (cV L) (jV L)).devRef b

theorem ownBufs_V :
    (ownBufs (VT d L) : sProp 𝕄)
      = iprop((∃ f, (VT d L).loc cc0_scratch0 ↦{fullShare} f) ∗ (∃ f, (VT d L).loc cc0_scratch1 ↦{fullShare} f)
          ∗ (∃ f, (VT d L).loc cc0_scratch2 ↦{fullShare} f)
          ∗ bigSep ((((ownRefs (τ := τ) (.scVector (cV L) (jV L))).erase (tref L cc0_scratch0)).erase (tref L cc0_scratch1)).erase (tref L cc0_scratch2))
              fun b => iprop(∃ f, ((d, b) : Loc nD τ sig) ↦{fullShare} f)) := by
  have ne (b b' : Ref sig .scVector) (h : b ≠ b') : tref L b ≠ tref L b' := fun e => absurd (Proc.devRef_injective _ e) h
  have m0 : tref L cc0_scratch0 ∈ ownRefs (τ := τ) (.scVector (cV L) (jV L)) := SparseCore.Cfg.mem_ownRefs_of_owner (p := Proc.scVector (cV L) (jV L)) rfl
  have m1 : tref L cc0_scratch1 ∈ ownRefs (τ := τ) (.scVector (cV L) (jV L)) := SparseCore.Cfg.mem_ownRefs_of_owner (p := Proc.scVector (cV L) (jV L)) rfl
  have m2 : tref L cc0_scratch2 ∈ ownRefs (τ := τ) (.scVector (cV L) (jV L)) := SparseCore.Cfg.mem_ownRefs_of_owner (p := Proc.scVector (cV L) (jV L)) rfl
  unfold SparseCore.Cfg.ownBufs
  refine (SparseCore.bigSep_erase' m0).trans ?_
  rw [SparseCore.bigSep_erase' (Finset.mem_erase.mpr ⟨ne _ _ (show (cc0_scratch1 : Ref sig .scVector) ≠ cc0_scratch0 by decide), m1⟩),
    SparseCore.bigSep_erase' (Finset.mem_erase.mpr ⟨ne _ _ (show (cc0_scratch2 : Ref sig .scVector) ≠ cc0_scratch1 by decide),
      Finset.mem_erase.mpr ⟨ne _ _ (show (cc0_scratch2 : Ref sig .scVector) ≠ cc0_scratch0 by decide), m2⟩⟩)]

/-! ## The tile's obligation -/

/-- The kernel's body on the tile's buffers. -/
abbrev bodyOf : Prog (Eff (F := F) L) PUnit :=
  cc0_sc_kernel (F := F) L iV (Memref.isWhole_whole _) xV (Memref.isWhole_whole _) oV (Memref.isWhole_whole _) lV (Memref.isWhole_whole _)
    rV (Memref.isWhole_whole _) aV (Memref.isWhole_whole _) cc0_scratch3 cc0_scratch4 cc0_scratch5 cc0_scratch6 cc0_scoped0 cc0_scoped1

theorem tile_body (hI : ∀ d j, (I d j).toNat < 100000) (q : PosShare TreeShare) (f : Buf (Elt F) (oLoc d))
    (O : CellTallies nD τ sig (HIx 1)) (W : Waits sig (HIx 1)) (hO : ∀ g, O g none = 0) :
    iprop(levAts (K (F := F)).L (K (F := F)).lev ∗ emp
        ∗ ((iLoc d ↦[(idxSrc L iV).view.set]{fullShare} I d) ∗ tabTok d (X d) q ∗ (oLoc d ↦[(outDst L oV).view.set]{fullShare} f))
        ∗ scopedBufs (VT d L) ∗ scopedSems0 (VT d L) ∗ owes (VT d L) O W)
      ⊢ wp frame (wpE (defs₀ (F := F)) 𝒱₀ (VT d L) none) Set.univ (bodyOf L)
          fun _ => iprop(((iLoc d ↦[(idxSrc L iV).view.set]{fullShare} I d) ∗ tabTok d (X d) q ∗ (oLoc d ↦[(outDst L oV).view.set]{fullShare} PV (X d) (I d)))
            ∗ scopedBufs (VT d L) ∗ scopedSems0 (VT d L)
            ∗ ∃ W', ⌜∀ p ∈ W', p ∈ W ∨ p.2 = none ∨ p.2 = some (0 : Fin 1)⌝ ∗ owes (VT d L) O W') := by
  rw [(K (F := F)).scopedBufs_V facts d (cV L) (jV L), SparseCore.Cfg.scopedSems0_V (Val := Elt F) d (cV L) (jV L), ownSems0_V, ownBufs_V]
  unfold bodyOf
  rw [kernel_eq]
  iintro ⟨#Hlv, -, Hp, ⟨H0, H1, H2, Hbufs⟩, ⟨HC, Hsems⟩, HO⟩
  ihave Hmw := (show levAts (K (F := F)).L (K (F := F)).lev ⊢ Transfers.MayWaits (VT d L) (default : HIx 1) O from
    (K (F := F)).mayWaits_none (thr := VT d L) hO) $$ Hlv
  iapply (tile_run d L (X d) (I d) (hI d) O W q f) $$ [Hmw Hp H0 H1 H2 HC HO]
  · isplitl [Hmw]; · iexact Hmw
    isplitl [Hp]; · iexact Hp
    isplitl [H0 H1 H2]
    · isplitl [H0]; · iexact H0
      isplitl [H1]; · iexact H1
      iexact H2
    isplitl [HC]; · iexact HC
    iexact HO
  iintro ⟨Hp, ⟨H0, H1, H2⟩, HC, ⟨%W', %hW', HO⟩⟩
  isplitl [Hp]; · iexact Hp
  isplitl [H0 H1 H2 Hbufs]
  · isplitl [H0]; · iexact H0
    isplitl [H1]; · iexact H1
    isplitl [H2]; · iexact H2
    iexact Hbufs
  isplitl [HC Hsems]
  · isplitl [HC]; · iexact HC
    iexact Hsems
  iexists W'
  isplitr
  · ipureintro; intro p hp
    rcases hW' p hp with h | h
    · exact Or.inl h
    · exact Or.inr (Or.inl h)
  · iexact HO

theorem defs₀_vector (c : Fin τ.nSC) (s : Fin τ.nSub) :
    defs₀ (F := F) (.scVector c s) 0 () = SparseCore.onTile hcore0 hsub0 (fun c s => bodyOf (F := F) (coordsV c s)) ⟨⟩ c s := rfl

end Tile

set_option maxRecDepth 8192 in
theorem tileObl (hI : ∀ d j, (I d j).toNat < 100000) : (K (F := F)).TileObl (D (F := F)) 𝒱 (P X I fo) v₀ 0 := by
  intro d c i O W hO _ _
  simp only [show (P X I fo).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  simp only [show (P X I fo).go 0 d c i = piece X I d (fo d) (tileOf c i) from rfl,
    show (P X I fo).td 0 d c i = piece X I d (PV (X d) (I d)) (tileOf c i) from rfl]
  have e (p : Prog (Eff (F := F) (coordsV ⟨_, hci.1⟩ ⟨_, hci.2⟩)) PUnit) (Q : PUnit → sProp 𝕄) : (wp frame (wpE (defs₀ (F := F)) 𝒱₀ (VT d (coordsV ⟨_, hci.1⟩ ⟨_, hci.2⟩)) none) Set.univ p Q : sProp 𝕄)
    = wp frame (wpE (defs₀ (F := F)) 𝒱₀ (V d ((K (F := F)).core 0 c) ((K (F := F)).sub 0 i)) none) Set.univ p Q := rfl
  rw [← e (bodyOf (coordsV ⟨_, hci.1⟩ ⟨_, hci.2⟩))]
  have h := tile_body X I d (coordsV ⟨_, hci.1⟩ ⟨_, hci.2⟩) hI (xSh (tileOf c i)) (fo d) O W hO
  refine BIBase.Entails.trans ?_ (h.trans ?_)
  · exact Entails.of_eq rfl
  apply wp_mono
  intro _
  refine Entails.of_eq ?_
  rfl

theorem vecSplit : (K (F := F)).VecSplit' (P X I fo) 0 := by
  intro d c
  show (bigSep Finset.univ fun s : Fin 16 => piece X I d (fo d) (tileOf c s) : sProp 𝕄) ⊢ |={Set.univ}=> iprop(
      (bigSep Finset.univ fun s : Fin 16 => piece X I d (fo d) (tileOf c s))
      ∗ ((bigSep Finset.univ fun s : Fin 16 => piece X I d (PV (X d) (I d)) (tileOf c s))
          -∗ bigSep Finset.univ fun s : Fin 16 => piece X I d (PV (X d) (I d)) (tileOf c s)))
  iintro H; imodintro
  isplitl [H]; · iexact H
  iintro H; iexact H

theorem st_eq (d : Dev nD) : (bigSep Finset.univ fun c : Fin ((K (F := F)).nCore 0) => (P X I fo).st 0 d c) = all X I d (fo d) :=
  (all_pieces X I d (fo d)).symm
theorem dn_eq (d : Dev nD) : (bigSep Finset.univ fun c : Fin ((K (F := F)).nCore 0) => (P X I fo).dn 0 d c) = all X I d (PV (X d) (I d)) :=
  (all_pieces X I d (PV (X d) (I d))).symm

/-! ## The launch's ghost state -/

abbrev adm : (p : Fin 1) → (pcfgs (F := F) p).Adm := fun p => (cfgs p).toPCfg_adm

/-- What is launched: the handshakes' rounds, the pipeline's, no counter. -/
def u₀ : UU := (initOf (K (F := F)).hsCells (K (F := F)).hsToks,
  (initOf (Pipeline.cells cfgs cellOf_inj) (Pipeline.launchToks cfgs cellOf_inj), 1))

theorem bigSep_emp' {J : Type} (s : Finset J) : (bigSep s fun _ => iprop(emp)) = (iprop(emp) : sProp 𝕄) := bigSep_emp_const s

/-- What a device's TensorCore takes of the pipeline's launch: its staging cells and the tokens of its copies. -/
def ghost (d : Dev nD) : sProp 𝕄 :=
  iprop(Pipeline.cellsGhost cfgs (EP (F := F)) 0 d ∗ Pipeline.toksInit cfgs (EP (F := F)) 0 d)

theorem hu₀ : (ownU (u₀ (F := F)) : sProp 𝕄)
    ⊢ |={Set.univ}=> iprop(BI.own (EH (initOf (K (F := F)).hsCells (K (F := F)).hsToks)) ∗ (bigSep Finset.univ fun d : Dev nD => ghost d)
        ∗ bigSep Finset.univ fun thr : Thread nD τ => bigSep Finset.univ fun q : Fin 1 => (P X I fo).x q thr) := by
  unfold u₀
  iintro Hu
  ihave H := (ownU_pair (initOf (K (F := F)).hsCells (K (F := F)).hsToks)
    ((initOf (Pipeline.cells cfgs cellOf_inj) (Pipeline.launchToks cfgs cellOf_inj), (1 : Counters)) : UP × Counters)) $$ Hu
  icases H with ⟨HH, HR⟩
  ihave H := (show _ ⊢ iprop(BI.own (EP (F := F) (initOf (Pipeline.cells cfgs cellOf_inj) (Pipeline.launchToks cfgs cellOf_inj))) ∗ _) from
    own_pair_emb (embR : Emb (UP × Counters) (MT nD τ sig (HIx 1) (Elt F) ℕ (UH × (UP × Counters)) ℕ))
      (initOf (Pipeline.cells cfgs cellOf_inj) (Pipeline.launchToks cfgs cellOf_inj)) (1 : Counters)) $$ HR
  icases H with ⟨HP, -⟩
  imod (Pipeline.fund_ghost cfgs (EP (F := F)) cellOf_inj) $$ HP with ⟨Hc, Ht⟩
  imodintro
  isplitl [HH]; · iexact HH
  isplitl [Hc Ht]
  · iapply (show iprop((bigSep Finset.univ fun d : Dev nD => bigSep Finset.univ fun p : Fin 1 => Pipeline.cellsGhost cfgs (EP (F := F)) p d)
        ∗ bigSep Finset.univ fun d : Dev nD => bigSep Finset.univ fun p : Fin 1 => Pipeline.toksInit cfgs (EP (F := F)) p d)
        ⊢ (bigSep Finset.univ fun d : Dev nD => ghost (F := F) d) from by
      rw [← bigSep_sep']
      exact bigSep_mono fun d _ => by
        rw [bigSep_univ_of_subsingleton (0 : Fin 1), bigSep_univ_of_subsingleton (0 : Fin 1)]; unfold ghost
        exact BI.Entails.refl _)
    isplitl [Hc]; · iexact Hc
    iexact Ht
  rw [show (bigSep Finset.univ fun thr : Thread nD τ => bigSep Finset.univ fun q : Fin 1 => (P X I fo).x q thr) = bigSep Finset.univ fun _ => iprop(emp) from
    bigSep_congr fun _ _ => bigSep_univ_of_subsingleton (0 : Fin 1), bigSep_emp']
  iempintro

end Cert.Proof.Run

end
-- ==== Proof.Region.lean ====
/-
  The TensorCore's region: what its pipeline knows of each window's buffers (`rdat`), its body run (`body_run`), and
  the region as a segment of @main (`reg`). The last block of each moved window hangs over its array's end, and what the
  buffers hold beyond it nothing states: so the data are relational, a result block being the body's payload of a block
  of the partial sums and of the two other windows' blocks filled in over SOME contents (`Rl`).
-/
module

public import proofs.«01_k».proof.Proof.Call
public import proofs.«01_k».proof.Proof.Gen.KernelIdeal.Points
public import Idealize.ShloMosaic.Lib.Pipeline.Regions
public import Idealize.ShloMosaic.Lib.Pipeline.RegionArrays
public import Idealize.ShloMosaic.Lib.Pipeline.ArrRel

@[expose] public section

noncomputable section

namespace Cert.Proof.Run

open Cert.KernelIdeal Cert.KernelIdeal.Gen Cert.Proof.Tile Cert.Proof.Model

open Idealize.ShloMosaic Idealize.ShloMosaic.ValueIdx
open Idealize.ShloMosaic.TcCoe
open Idealize.ShloMosaic.SparseCore (V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- The windows' arrays' contents, on one device. -/
abbrev Arrs (F : FTy → Type) (d : Dev nD) : Type := (w : Fin cfg1.W) → Buf (Elt F) ((cfg1.win w).arr.view.loc (d : Thread nD τ))

/-- A window's buffer just after a fetch at point `t` over contents `x`. -/
def fetchedAt (d : Dev nD) (A : Arrs F d) (w : Fin cfg1.W) (t : Fin cfg1.N) (x : (cfg1.win w).block.Idx → Elt F (cfg1.win w).elt) :
    (cfg1.win w).block.Idx → Elt F (cfg1.win w).elt :=
  (cfg1.win w).fill (cfg1.grid.coords t) x (((cfg1.win w).blk t).view.read (Elt F) (A w))

/-- What the body may leave in the result's buffer at point `t`. -/
def Rl (d : Dev nD) (A : Arrs F d) (t : Fin cfg1.N) (X : S50x16384.Idx → F .f32) : Prop :=
  ∃ (t₀ : Fin cfg1.N) (x0 : S32x50x64.Idx → F .f32) (x1 : S64x16384.Idx → F .f32) (x2 : S1x16384.Idx → F .f32),
    X = k1_pay1 (fetchedAt d A 0 t₀ x0) (fetchedAt d A 1 t x1) (fetchedAt d A 2 t x2)

/-- What the pipeline knows: the arrays at entry, the first window kept, the result's block as `Rl` has it. -/
def rdat (A : (d : Dev nD) → Arrs F d) (d : Dev nD) : Pipeline.RDat τ (Elt F) (HIx 1) ℕ UU ℕ cfg1 d where
  A := A d
  after := fun
    | 0 => fun _ Y X => X = Y
    | 1 => fun _ _ _ => True
    | 2 => fun _ _ _ => True
    | 3 => fun t _ X => Rl d (A d) t X
    | ⟨_ + 4, h⟩ => absurd h (Nat.not_lt.2 (Nat.le_add_left _ _))
  Φ _ := iprop(emp)
  q _ := fullShare
  owed _ := 0
  recorded _ := {p | (K (F := F)).lev (SparseCore.T d, p.1) p.2 ≤ 8}

variable (A : (d : Dev nD) → Arrs F d)

theorem finds_0 (d : Dev nD) (t : Fin cfg1.N) (X : S32x50x64.Idx → F .f32) (h : (rdat A d).Finds 0 t X) :
    ∃ (t₀ : Fin cfg1.N) (x0 : S32x50x64.Idx → F .f32), X = fetchedAt d (A d) 0 t₀ x0 := by
  obtain ⟨n, hn⟩ := t
  induction n with
  | zero =>
    obtain ⟨x, hx⟩ := ((rdat A d).finds_of_fetch ((fetch1_0 ⟨0, hn⟩).mpr rfl) X).mp h
    exact ⟨_, x, hx⟩
  | succ n ih =>
    have hN : cfg1.N = 7 := N_1
    have hf : (cfg1.win 0).fetch ⟨n + 1, hn⟩ = false := by
      have := (fetch1_0 ⟨n + 1, hn⟩)
      rw [Bool.eq_false_iff]; intro e
      have := this.mp e; simp only at this; omega
    rcases ((rdat A d).finds_of_pos hf (Nat.succ_ne_zero n) X).mp h with h | ⟨Y, hY, e⟩
    · exact absurd h (by simp [Pipeline.Window.flush])
    · obtain rfl : X = Y := e
      exact ih (Nat.lt_of_succ_lt hn) hY

section Whole
variable (d : Dev nD) {s : Shape} (m : Memref sig .tc .vmem s .f32) (o : Fin s.rank → ℕ) (inb : ∀ a, o a + s.size a ≤ s.size a)

abbrev RVec : Type := (Rect.unit (s := s) o s.size inb).shape.Idx → Elt F .f32

abbrev ldAll (hl : m.view.LoadsAt (Rect.unit (s := s) o s.size inb).toLoadRect) : Prog (TpuEff nD τ sig (Elt F) Λ₀ .tc) (RVec (F := F) o inb) :=
  Prog.lift (.load m (Rect.unit (s := s) o s.size inb).toLoadRect hl)

/-- A load of a whole buffer reads what it holds. -/
theorem wp_ldAll (ho : ∀ a, o a = 0) (hl : m.view.LoadsAt (Rect.unit (s := s) o s.size inb).toLoadRect) (X : s.Idx → F .f32)
    {β : Type} (k : RVec (F := F) o inb → Prog (TpuEff nD τ sig (Elt F) Λ₀ .tc) β) (Q : β → sProp 𝕄) :
    (owns (d : Thread nD τ) m fullShare X : sProp 𝕄)
      ⊢ iprop((owns (d : Thread nD τ) m fullShare X -∗ wp frame (wpE (defs₀ (F := F)) 𝒱₀ (d : Thread nD τ) none) Set.univ (k X) Q)
        -∗ wp frame (wpE (defs₀ (F := F)) 𝒱₀ (d : Thread nD τ) none) Set.univ (ldAll m o inb hl >>= k) Q) := by
  unfold owns
  iintro ⟨%f, %hf, H⟩ Hk
  have hS : (m.access (Rect.unit (s := s) o s.size inb)).set ⊆ m.view.set := View.set_slice_subset _ _
  have e : (m.access (Rect.unit (s := s) o s.size inb)).read (Elt F) f = (X : RVec (F := F) o inb) := by
    rw [← hf]
    funext j
    show m.view.read (Elt F) f ((Rect.unit (s := s) o s.size inb).emb j) = _
    exact congrArg _ (funext fun a => Fin.ext (by show o a + 1 * (j a).val = (j a).val; rw [ho]; omega))
  have h : (m.view.loc (d : Thread nD τ) ↦[m.view.set]{fullShare} f : sProp 𝕄)
      ⊢ iprop(((m.view.loc (d : Thread nD τ) ↦[m.view.set]{fullShare} f)
          -∗ wp frame (wpE (defs₀ (F := F)) 𝒱₀ (d : Thread nD τ) none) Set.univ (k ((m.access (Rect.unit (s := s) o s.size inb)).read (Elt F) f)) Q)
        -∗ wp frame (wpE (defs₀ (F := F)) 𝒱₀ (d : Thread nD τ) none) Set.univ (ldAll m o inb hl >>= k) Q) :=
    wp_load_rect 𝒱₀ (d : Thread nD τ) none Set.univ (m := m) (r := Rect.unit (s := s) o s.size inb) (hl := hl) (k := k) (q := fullShare) (f := f) hS
  rw [e] at h
  iapply h $$ H
  iintro H; iapply Hk
  iexists f; isplitr; · ipureintro; exact hf
  iexact H

/-- A store of a whole buffer leaves what it stores. -/
theorem wp_stAll (ho : ∀ a, o a = 0) (w : s.Idx → F .f32) (hx : (m.access (Rect.unit (s := s) o s.size inb)).Stores Finset.univ)
    (hm : (Finset.univ : Finset (Rect.unit (s := s) o s.size inb).shape.Idx) = Finset.univ ∨ ∀ a, (Rect.unit (s := s) o s.size inb).stride a = 1) (X : s.Idx → F .f32)
    {β : Type} (k : PUnit → Prog (TpuEff nD τ sig (Elt F) Λ₀ .tc) β) (Q : β → sProp 𝕄) :
    (owns (d : Thread nD τ) m fullShare X : sProp 𝕄)
      ⊢ iprop((owns (d : Thread nD τ) m fullShare w -∗ wp frame (wpE (defs₀ (F := F)) 𝒱₀ (d : Thread nD τ) none) Set.univ (k ⟨⟩) Q)
        -∗ wp frame (wpE (defs₀ (F := F)) 𝒱₀ (d : Thread nD τ) none) Set.univ
          (Prog.lift (.store m (Rect.unit (s := s) o s.size inb) w Finset.univ hx hm) >>= k) Q) := by
  unfold owns
  iintro ⟨%f, %hf, H⟩ Hk
  have hS : (m.access (Rect.unit (s := s) o s.size inb)).setOn Finset.univ ⊆ m.view.set := View.set_slice_subset _ _
  have h : (m.view.loc (d : Thread nD τ) ↦[m.view.set]{fullShare} f : sProp 𝕄)
      ⊢ iprop(((m.view.loc (d : Thread nD τ) ↦[m.view.set]{fullShare} ((m.access (Rect.unit (s := s) o s.size inb)).write (Elt F) f w Finset.univ))
          -∗ wp frame (wpE (defs₀ (F := F)) 𝒱₀ (d : Thread nD τ) none) Set.univ (k ⟨⟩) Q)
        -∗ wp frame (wpE (defs₀ (F := F)) 𝒱₀ (d : Thread nD τ) none) Set.univ
          (Prog.lift (.store m (Rect.unit (s := s) o s.size inb) w Finset.univ hx hm) >>= k) Q) :=
    wp_store 𝒱₀ (d : Thread nD τ) none Set.univ (m := m) (r := Rect.unit (s := s) o s.size inb) (hx := hx) (hm := hm) (k := k) (f := f) hS
  iapply h $$ H
  iintro H; iapply Hk
  iexists _; isplitr; swap; · iexact H
  ipureintro
  refine Eq.trans ?_ (View.read_write_univ (v := m.access (Rect.unit (s := s) o s.size inb)) f w)
  funext j
  show _ = m.view.read (Elt F) _ ((Rect.unit (s := s) o s.size inb).emb j)
  exact congrArg _ (funext fun a => Fin.ext (by show (j a).val = o a + 1 * (j a).val; rw [ho]; omega))

end Whole

theorem zero2 : ∀ a : Fin 2, (![0, 0] : Fin 2 → ℕ) a = 0 := by decide
theorem zero3 : ∀ a : Fin 3, (![0, 0, 0] : Fin 3 → ℕ) a = 0 := by decide

/-- The body run on four whole buffers: the three read kept, the fourth left at the payload. -/
theorem body_run (d : Dev nD) (i : grid1.Coords) (m0 : Memref sig .tc .vmem S32x50x64 .f32) (h0 : m0.IsWhole)
    (m1 : Memref sig .tc .vmem S64x16384 .f32) (h1 : m1.IsWhole) (m2 : Memref sig .tc .vmem S1x16384 .f32) (h2 : m2.IsWhole)
    (m3 : Memref sig .tc .vmem S50x16384 .f32) (h3 : m3.IsWhole)
    (f0 : S32x50x64.Idx → F .f32) (f1 : S64x16384.Idx → F .f32) (f2 : S1x16384.Idx → F .f32) (f3 : S50x16384.Idx → F .f32)
    (Q : PUnit → sProp 𝕄) :
    iprop(owns (d : Thread nD τ) m0 fullShare f0 ∗ owns (d : Thread nD τ) m1 fullShare f1 ∗ owns (d : Thread nD τ) m2 fullShare f2 ∗ owns (d : Thread nD τ) m3 fullShare f3
      ∗ ((owns (d : Thread nD τ) m0 fullShare f0 ∗ owns (d : Thread nD τ) m1 fullShare f1 ∗ owns (d : Thread nD τ) m2 fullShare f2
          ∗ owns (d : Thread nD τ) m3 fullShare (k1_pay1 f0 f1 f2)) -∗ Q ⟨⟩))
      ⊢ wp frame (wpE (defs₀ (F := F)) 𝒱₀ (d : Thread nD τ) none) Set.univ (cc1_body i m0 h0 m1 h1 m2 h2 m3 h3) Q := by
  rw [cc1_body_eq_skeleton]
  unfold cc1_body_skel
  iintro ⟨H0, H1, H2, H3, Hk⟩
  iapply (wp_ldAll d m0 _ _ zero3 _ f0 _ Q) $$ H0; iintro H0
  iapply (wp_ldAll d m1 _ _ zero2 _ f1 _ Q) $$ H1; iintro H1
  iapply (wp_ldAll d m2 _ _ zero2 _ f2 _ Q) $$ H2; iintro H2
  iapply (wp_ldAll d m3 _ _ zero2 _ f3 _ Q) $$ H3; iintro H3
  iapply (wp_stAll d m3 _ _ zero2 _ _ _ f3 _ Q) $$ H3; iintro H3
  iapply (show Q ⟨⟩ ⊢ wp frame (wpE (defs₀ (F := F)) 𝒱₀ (d : Thread nD τ) none) Set.univ (Prog.ret ⟨⟩) Q from by
    rw [wp_ret]; iintro H; imodintro; iexact H)
  iapply Hk
  isplitl [H0]; · iexact H0
  isplitl [H1]; · iexact H1
  isplitl [H2]; · iexact H2
  iexact H3

theorem body_obligation (d : Dev nD) : (rdat A d).BodyObligation (defs₀ (F := F)) 𝒱₀ (none : HIx 1) Set.univ := fun t Y hY => by
  rw [bigSep_W1, bigSep_W1]
  iintro ⟨-, HO, H0, H1, H2, H3⟩
  obtain ⟨t₀, x0, e0⟩ := finds_0 A d t _ (hY 0)
  obtain ⟨x1, e1⟩ := ((rdat A d).finds_of_fetch (fetch1_1 t) _).mp (hY 1)
  obtain ⟨x2, e2⟩ := ((rdat A d).finds_of_fetch (fetch1_2 t) _).mp (hY 2)
  iapply (show _ ⊢ wp frame (wpE (defs₀ (F := F)) 𝒱₀ (d : Thread nD τ) none) Set.univ (bodyAt1 t) _ from
    body_run d (grid1.coords t) _ _ _ _ _ _ _ _ (Y 0) (Y 1) (Y 2) (Y 3) _)
  isplitl [H0]; · iexact H0
  isplitl [H1]; · iexact H1
  isplitl [H2]; · iexact H2
  isplitl [H3]; · iexact H3
  iintro ⟨H0, H1, H2, H3⟩
  isplitr; · iempintro
  isplitl [HO]; · iexact HO
  isplitl [H0]; · iexists _; isplitr; swap; (· iexact H0); ipureintro; rfl
  isplitl [H1]; · iexists _; isplitr; swap; (· iexact H1); ipureintro; trivial
  isplitl [H2]; · iexists _; isplitr; swap; (· iexact H2); ipureintro; trivial
  iexists _; isplitr; swap; (· iexact H3); ipureintro
  exact ⟨t₀, x0, x1, x2, by rw [← e0]; exact congrArg₂ (k1_pay1 (Y 0)) e1 e2⟩

/-! ## The region -/

def rdats (A : (d : Dev nD) → Arrs F d) : (p : Fin 1) → (c : Dev nD) →
    Pipeline.RDat τ (Elt F) (HIx 1) ℕ UU ℕ (Pipeline.pin (pcfgs (F := F)) adm p) c := fun _ c => rdat A c

/-- What the TensorCore owes beside the region, its waits' levels bounded. -/
def due (d : Dev nD) : sProp 𝕄 := iprop(∃ W, ⌜(K (F := F)).WBelow (SparseCore.T d) W 8⌝ ∗ owes (SparseCore.T d) 0 W)

theorem prefHeld1 (c : Dev nD) (q) (pf) : (Pipeline.prefHeld (Ix := HIx 1) (Name := ℕ) (U := UU) (Lvl := ℕ) (Val := Elt F) (pcfgs (F := F) 0).pre c q pf : sProp 𝕄) = BI.emp :=
  Pipeline.prefHeld_of_none _ rfl c q pf

theorem scopedRest1 (c : Dev nD) : (Pipeline.scopedRest (Ix := HIx 1) (Name := ℕ) (U := UU) (Lvl := ℕ) (Val := Elt F) (Pipeline.pin (pcfgs (F := F)) adm 0).spec c : sProp 𝕄) = BI.emp :=
  scopedRest1_eq c

theorem due_intro (d : Dev nD) (t : Fin (cfg1.N + 1)) : due d ⊢ ((rdat A d).owesAt (none : HIx 1) t : sProp 𝕄) := by
  unfold due Pipeline.RDat.owesAt Pipeline.owesWithin Pipeline.RDat.bound
  iintro ⟨%W, %hW, HO⟩; iexists W; isplitr; · ipureintro; exact fun p hp => Or.inl (hW p hp)
  iexact HO

theorem due_elim (d : Dev nD) (t : Fin (cfg1.N + 1)) : ((rdat A d).owesAt (none : HIx 1) t : sProp 𝕄) ⊢ due d := by
  unfold due Pipeline.RDat.owesAt Pipeline.owesWithin Pipeline.RDat.bound
  iintro ⟨%W, %hW, HO⟩; iexists W; isplitr
  · ipureintro
    intro p hp
    rcases hW hp with h | ⟨w, s, e⟩
    · exact h
    · rw [e]; exact Nat.zero_le _
  iexact HO

/-- The region: from the arrays at `A` to the arrays as the write-backs may leave them. -/
def reg : Pipeline.RDat.RegionSeg (pcfgs (F := F)) adm (rdats A) (none : HIx 1) defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := body_obligation A c
  hwaits := Pipeline.RDat.hwaits_of_owed_zero _ _ _ _ _ _ 0 fun _ _ => rfl
  pre c := iprop((rdat A c).arrays (A c) ∗ due c)
  post c := iprop((rdat A c).arraysAt cfg1.N ∗ due c)
  X _ := iprop(emp)
  Y _ := iprop(emp)
  Z _ := iprop(emp)
  hentry c := by
    rw [Pipeline.ownSems0_none, prefHeld1]
    iintro ⟨⟨Ha, HO⟩, -, -⟩
    imodintro
    isplitl [Ha]; · iexact Ha
    isplitr; · iempintro
    isplitl [HO]; · iapply (due_intro A c 0); iexact HO
    isplitr <;> iempintro
  hin c := by
    iintro -; iempintro
  hout c := by
    rw [Pipeline.ownSems0_none, scopedRest1]
    iintro -
    isplitr; · iempintro
    isplitr <;> iempintro
  hexit c := by
    iintro ⟨Ha, HO, -, -⟩
    imodintro
    isplitl [Ha]; · iexact Ha
    iapply (due_elim A c (Fin.last _)); iexact HO

theorem reg_pre (d : Dev nD) : (reg A).pre d = iprop((rdat A d).arrays (A d) ∗ due d) := rfl

theorem reg_post (d : Dev nD) : (reg A).post d = iprop((rdat A d).arraysAt cfg1.N ∗ due d) := rfl

/-- The region's call in @main. -/
theorem wp_region (d : Dev nD) (Q : PUnit → sProp 𝕄) :
    iprop((iprop(boundary (SparseCore.T d) ∗ (rdat A d).arraysAt cfg1.N ∗ due d) -∗ Q ⟨⟩)
        ∗ boundary (SparseCore.T d) ∗ ((rdat A d).arrays (A d) ∗ due d) ∗ levAts (K (F := F)).L (K (F := F)).lev ∗ ghost d)
      ⊢ wp frame (wpE ((K (F := F)).defs D) 𝒱 (SparseCore.T d) none) Set.univ
          (Prog.lift (.customCall (SparseCore.inner (Pipeline.entry 0)) ())) Q := by
  have h := Pipeline.RDat.RegionSeg.wp (pcfgs (F := F)) adm (rdats A) (none : HIx 1) cellOf_inj EP defs₀ 𝒱₀ (K (F := F)).L (K (F := F)).lev (reg A) d
    none (fun u hu => nomatch hu) (fun x => Prog.ret x) Q
  rw [reg_pre, reg_post] at h
  refine BIBase.Entails.trans ?_ (h.trans ?_)
  · unfold ghost
    iintro ⟨Hk, Hb, Hp, HL, Hg⟩
    isplitl [Hk]
    · iintro ⟨Hb, Hp⟩
      rw [wp_ret]
      imodintro
      iapply Hk
      isplitl [Hb]; · iexact Hb
      iexact Hp
    isplitl [Hb]; · iexact Hb
    isplitl [Hp]; · iexact Hp
    isplitl [HL]; · iexact HL
    iexact Hg
  · exact (K (F := F)).wp_liftProg D 𝒱 (SparseCore.T d) Set.univ none (.op (.customCall (Pipeline.entry 0) ()) fun x => .ret x) Q

end Cert.Proof.Run

end
-- ==== Proof.Main.lean ====
/-
  @main on the TensorCore, and the program's run: the host operations before the SparseCore call, the call, the host
  operations after it, the TensorCore's region. Over any float values.
-/
module

public import proofs.«01_k».proof.Proof.Region
public import Idealize.ShloMosaic.Lib.SparseCore.Quiescent
public import Idealize.ShloMosaic.Lib.StableHlo.Run
public import Idealize.ShloMosaic.Lib.Pipeline.Frame

@[expose] public section

noncomputable section

namespace Cert.Proof.Run

open Cert.KernelIdeal Cert.KernelIdeal.Gen Cert.Proof.Tile Cert.Proof.Model

open Idealize.ShloMosaic Idealize.ShloMosaic.ValueIdx
open Idealize.ShloMosaic.TcCoe
open Idealize.ShloMosaic.StableHlo (held seq after launchContents TRef)
open Idealize.ShloMosaic.SparseCore (V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The host operations -/

/-- The host operations before the SparseCore call. -/
def ops₁ : List (HloOp τ sig (Elt F)) :=
  [ StableHlo.unary main_arg0 main_v0 ((transpose S50x16384 [1, 0] · transposes_S16384x50_S50x16384_1_0) : (⟨S16384x50, .i32⟩ : BufTy).Contents (Elt F) → (⟨S50x16384, .i32⟩ : BufTy).Contents (Elt F)),
    StableHlo.reshape main_v0 main_v1 (rfl : (.i32 : EltTy) = .i32) shapeCasts_S50x16384_S32x200x128,
    StableHlo.nullary main_c (constantI S_ 32 0#32),
    TRef.unary (TRef.of (T := ⟨S_, .i32⟩) main_c) (TRef.of (T := ⟨S_, .f32⟩) main_call0_v0) (sitofp .f32),
    TRef.binary (TRef.of (T := ⟨S100000x64, .f32⟩) main_arg1) (TRef.of (T := ⟨S_, .f32⟩) main_call0_v0) (TRef.of (T := ⟨S100000x128, .f32⟩) main_v2)
      (fun x v => pad S100000x128 ![0, 0] ![0, 64] ![0, 0] x v pads_S100000x64_S100000x128_000_0640 h_S_) ]

/-- The host operations between the SparseCore call and the region. -/
def ops₂ : List (HloOp τ sig (Elt F)) :=
  [ StableHlo.reshape main_v3 main_v4 (rfl : (.f32 : EltTy) = .f32) shapeCasts_S32x3200_S32x50x64,
    StableHlo.unary main_arg2 main_v5 ((transpose S64x100000 [1, 0] · transposes_S100000x64_S64x100000_1_0) : (⟨S100000x64, .f32⟩ : BufTy).Contents (Elt F) → (⟨S64x100000, .f32⟩ : BufTy).Contents (Elt F)),
    StableHlo.reshape main_arg3 main_v6 (rfl : (.f32 : EltTy) = .f32) shapeCasts_S100000_S1x100000 ]

theorem main_eq (d : Dev nD) : main (F := F) d
    = (seq ops₁ >>= fun _ => (K (F := F)).run d 0 >>= fun _ => seq ops₂ >>= fun _ =>
        Prog.lift (.customCall (SparseCore.inner (Pipeline.entry 0)) ()) >>= fun _ => pure ⟨⟩) := rfl

theorem ops₁_sub : ∀ op ∈ ops₁ (F := F), op.bufs ⊆ Pipeline.ucRefs τ sig := by
  intro op h
  refine Pipeline.sub_ucRefs op ?_
  revert op
  rw [← List.forall_iff_forall_mem]
  exact ⟨StableHlo.unary_bufs_sub .., StableHlo.reshape_bufs_sub .., StableHlo.nullary_bufs_sub .., StableHlo.unary_bufs_sub .., StableHlo.binary_bufs_sub ..⟩
theorem ops₂_sub : ∀ op ∈ ops₂ (F := F), op.bufs ⊆ Pipeline.ucRefs τ sig := by
  intro op h
  refine Pipeline.sub_ucRefs op ?_
  revert op
  rw [← List.forall_iff_forall_mem]
  exact ⟨StableHlo.reshape_bufs_sub .., StableHlo.unary_bufs_sub .., StableHlo.reshape_bufs_sub ..⟩
theorem ops₁_fresh : ∀ op ∈ ops₁ (F := F), op.fresh = ∅ := by
  rw [← List.forall_iff_forall_mem]; exact ⟨rfl, rfl, rfl, rfl, rfl⟩
theorem ops₂_fresh : ∀ op ∈ ops₂ (F := F), op.fresh = ∅ := by
  rw [← List.forall_iff_forall_mem]; exact ⟨rfl, rfl, rfl⟩

/-! ## The buffers' contents along @main -/

variable (m : (ℓ : Loc nD τ sig) → Buf (Elt F) ℓ) (ρ : Dev nD → PrngReg)

/-- A TensorCore reference of a device, as a device buffer. -/
abbrev dr (b : Ref sig .tc) : DevRef τ sig := Proc.devRef .tc b

/-- Before the SparseCore call. -/
def C₁ (d : Dev nD) : Valuation τ sig (Elt F) := after ops₁ (launchContents m d)
def Xt (d : Dev nD) : S100000x128.Idx → F .f32 := C₁ m d (dr main_v2)
def It (d : Dev nD) : S32x200x128.Idx → BitVec 32 := C₁ m d (dr main_v1)
def Ft (d : Dev nD) : Buf (Elt F) (oLoc d) := C₁ m d (dr main_v3)
/-- After it: the partial sums in place. -/
def C₂ (d : Dev nD) : Valuation τ sig (Elt F) := Function.update (C₁ m d) (dr main_v3) (PV (Xt m d) (It m d))
/-- At the region. -/
def C₃ (d : Dev nD) : Valuation τ sig (Elt F) := after ops₂ (C₂ m d)
/-- The region's arrays' contents. -/
def At (d : Dev nD) : Arrs F d := fun w => C₃ m d (dr (Pipeline.arrRef spec1 w))

theorem C₃_arg (d : Dev nD) (b : Ref sig .tc) (h : b ∈ [main_arg0, main_arg1, main_arg2, main_arg3]) : C₃ m d (dr b) = m (d, dr b) := by
  have ne (x y : Ref sig .tc) (h : x ≠ y) : dr x ≠ dr y := StableHlo.devRef_ne_of_ne h
  simp only [List.mem_cons, List.not_mem_nil, or_false] at h
  unfold C₃ C₂ C₁ ops₁ ops₂
  rcases h with rfl | rfl | rfl | rfl <;>
    · simp only [TRef.binary, TRef.nullary, TRef.ternary, TRef.unary, TRef.toBuf, TRef.ofBuf, cast_eq]
      after_results_simp
      rw [Function.update_of_ne (ne _ _ (by decide))]
      after_results_simp
      try rfl

attribute [local irreducible] PV C₁ C₂ C₃

/-! ## @main -/

theorem unscopedBufs_eq (d : Dev nD) (W : (b : Ref sig .tc) → Buf (Elt F) ((d.tc : Thread nD τ).loc b)) :
    (unscopedBufs d W : sProp 𝕄) = iprop((((d : Thread nD τ).loc main_arg0) ↦{fullShare} W main_arg0) ∗ (((d : Thread nD τ).loc main_arg1) ↦{fullShare} W main_arg1)
      ∗ (((d : Thread nD τ).loc main_arg2) ↦{fullShare} W main_arg2) ∗ (((d : Thread nD τ).loc main_arg3) ↦{fullShare} W main_arg3)
      ∗ (((d : Thread nD τ).loc main_v4) ↦{fullShare} W main_v4) ∗ (((d : Thread nD τ).loc main_v5) ↦{fullShare} W main_v5)
      ∗ (((d : Thread nD τ).loc main_v6) ↦{fullShare} W main_v6) ∗ (((d : Thread nD τ).loc main_v7) ↦{fullShare} W main_v7)
      ∗ bigSep {main_v0, main_v1, main_c, main_call0_v0, main_v2, main_v3} fun b => ((d : Thread nD τ).loc b) ↦{fullShare} W b) := by
  unfold unscopedBufs
  rw [show (Finset.univ.filter fun b : Ref sig .tc => ¬ b.isScoped)
      = insert main_arg0 (insert main_arg1 (insert main_arg2 (insert main_arg3 (insert main_v4 (insert main_v5 (insert main_v6 (insert main_v7
        {main_v0, main_v1, main_c, main_call0_v0, main_v2, main_v3}))))))) by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide)]

/-- The SparseCore call's buffers. -/
def callRefs : Finset (DevRef τ sig) := {dr main_v1, dr main_v2, dr main_v3}

theorem callRefs_sub : callRefs ⊆ Pipeline.ucRefs τ sig := by decide

theorem held_call (d : Dev nD) (W : Valuation τ sig (Elt F)) :
    (held (d : Thread nD τ) callRefs W : sProp 𝕄)
      = iprop((iLoc d ↦{fullShare} W (dr main_v1)) ∗ (xLoc d ↦{fullShare} W (dr main_v2)) ∗ oLoc d ↦{fullShare} W (dr main_v3)) := by
  unfold held callRefs
  rw [SparseCore.bigSep_insert' (by decide), SparseCore.bigSep_insert' (by decide), bigSep_singleton]

theorem C₂_v3 (d : Dev nD) : C₂ m d (dr main_v3) = PV (Xt m d) (It m d) := by
  unfold C₂; exact Function.update_self ..
theorem C₂_ne (d : Dev nD) (b : DevRef τ sig) (h : b ≠ dr main_v3) : C₂ m d b = C₁ m d b := by
  unfold C₂; exact Function.update_of_ne h ..

/-- What the program leaves on a device: its arguments as they were, its result as the region may leave it. -/
abbrev FIN (d : Dev nD) : sProp 𝕄 :=
  iprop((((d : Thread nD τ).loc main_arg0) ↦{fullShare} m ((d : Thread nD τ).loc main_arg0)) ∗ (((d : Thread nD τ).loc main_arg1) ↦{fullShare} m ((d : Thread nD τ).loc main_arg1))
    ∗ (((d : Thread nD τ).loc main_arg2) ↦{fullShare} m ((d : Thread nD τ).loc main_arg2)) ∗ (((d : Thread nD τ).loc main_arg3) ↦{fullShare} m ((d : Thread nD τ).loc main_arg3))
    ∗ ∃ f : Buf (Elt F) ((d : Thread nD τ).loc main_v7), ⌜(rdat (At m) d).ArrAt 3 cfg1.N f⌝ ∗ ((d : Thread nD τ).loc main_v7) ↦{fullShare} f)

theorem held_after (d : Dev nD) :
    iprop(all (Xt m) (It m) d (PV (Xt m d) (It m d)) ∗ held (d : Thread nD τ) (Pipeline.ucRefs τ sig \ callRefs) (C₁ m d))
      ⊢ (held (d : Thread nD τ) (Pipeline.ucRefs τ sig) (C₂ m d) : sProp 𝕄) := by
  rw [StableHlo.held_sub_split (d : Thread nD τ) callRefs_sub (C₂ m d), held_call, C₂_v3, C₂_ne m d (dr main_v1) (by decide), C₂_ne m d (dr main_v2) (by decide),
    StableHlo.held_congr (d : Thread nD τ) (S := Pipeline.ucRefs τ sig \ callRefs) (V := C₂ m d) (V' := C₁ m d) fun b hb => C₂_ne m d b fun e =>
      (Finset.mem_sdiff.mp hb).2 (by rw [e]; decide)]
  exact BI.Entails.refl _

theorem rdat_share (A : (d : Dev nD) → Arrs F d) (d : Dev nD) (w : Fin cfg1.W) : (rdat A d).share w = fullShare := by
  unfold Pipeline.RDat.share; split <;> rfl

theorem arrays_list (A : (d : Dev nD) → Arrs F d) (d : Dev nD) :
    ((rdat A d).arrays (A d) : sProp 𝕄) = iprop((((d : Thread nD τ).loc main_v4) ↦{fullShare} A d 0) ∗ (((d : Thread nD τ).loc main_v5) ↦{fullShare} A d 1)
      ∗ (((d : Thread nD τ).loc main_v6) ↦{fullShare} A d 2) ∗ (((d : Thread nD τ).loc main_v7) ↦{fullShare} A d 3)) :=
  (Pipeline.RDat.arrays_eq (pcfgs (F := F)) adm (rdats A) 0 d arr_whole1 (rdat_share A d) (A d)).trans (bigSep_W1 _)

theorem arraysAt_list (A : (d : Dev nD) → Arrs F d) (d : Dev nD) (n : ℕ) :
    ((rdat A d).arraysAt n : sProp 𝕄)
      = iprop((∃ f, ⌜(rdat A d).ArrAt 0 n f⌝ ∗ (((d : Thread nD τ).loc main_v4) ↦{fullShare} f)) ∗ (∃ f, ⌜(rdat A d).ArrAt 1 n f⌝ ∗ (((d : Thread nD τ).loc main_v5) ↦{fullShare} f))
      ∗ (∃ f, ⌜(rdat A d).ArrAt 2 n f⌝ ∗ (((d : Thread nD τ).loc main_v6) ↦{fullShare} f)) ∗ (∃ f, ⌜(rdat A d).ArrAt 3 n f⌝ ∗ (((d : Thread nD τ).loc main_v7) ↦{fullShare} f))) :=
  (Pipeline.RDat.arraysAt_eq (pcfgs (F := F)) adm (rdats A) 0 d arr_whole1 (rdat_share A d) n).trans (bigSep_W1 _)

/-- What the TensorCore owes after the call is nothing. -/
theorem Otc_one (d : Dev nD) : (K (F := F)).Otc (N := 1) d 1 = 0 := SparseCore.Cfg.Otc_end _ _ le_rfl

theorem due_tc (d : Dev nD) : (due d : sProp 𝕄) ⊢ iprop(∃ W, ⌜(K (F := F)).WBelow (SparseCore.T d) W (8 * 1)⌝ ∗ owes (SparseCore.T d) ((K (F := F)).Otc d 1) W) := by
  rw [Otc_one]; exact BI.Entails.refl _
theorem tc_due (d : Dev nD) : (iprop(∃ W, ⌜(K (F := F)).WBelow (SparseCore.T d) W (8 * 1)⌝ ∗ owes (SparseCore.T d) ((K (F := F)).Otc d 1) W) : sProp 𝕄) ⊢ due d := by
  rw [Otc_one]; exact BI.Entails.refl _

/-- The TensorCore's state after the call: what it owes, and the rest. -/
theorem tcSt_one (d : Dev nD) : ∃ R : sProp 𝕄, (K (F := F)).tcSt EH d 1
    = iprop((∃ W, ⌜(K (F := F)).WBelow (SparseCore.T d) W (8 * 1)⌝ ∗ owes (SparseCore.T d) ((K (F := F)).Otc d 1) W) ∗ R) := ⟨_, rfl⟩

theorem arg_pts (d : Dev nD) (b : Ref sig .tc) (h : b ∈ [main_arg0, main_arg1, main_arg2, main_arg3]) :
    (((d : Thread nD τ).loc b) ↦{fullShare} C₃ m d (dr b) : sProp 𝕄) ⊢ ((d : Thread nD τ).loc b) ↦{fullShare} m ((d : Thread nD τ).loc b) := by
  rw [C₃_arg m d b h]

theorem hmain (κ : GSem nD τ sig → ℕ) (d : Dev nD) :
    iprop((K (F := F)).ctx EH (P (Xt m) (It m) (Ft m)) κ ∗ (K (F := F)).tcSt EH d 0 ∗ (K (F := F)).tcRes m ρ d ∗ ghost d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d : Thread nD τ).loc b)) : sProp 𝕄) = held (d : Thread nD τ) (Pipeline.ucRefs τ sig) (launchContents m d)
    from Pipeline.unscopedBufs_held d (launchContents m d), main_eq]
  iintro ⟨#Hctx, Hst, ⟨Hb, Hh, Hts, -⟩, HG⟩
  iapply (StableHlo.wp_seq 𝒱 none Set.univ d (Pipeline.ucRefs τ sig) _ ops₁ ops₁_sub ops₁_fresh (launchContents m d)) $$ [Hb Hh]
  · isplitl [Hb]; · iexact Hb
    iexact Hh
  iintro ⟨Hb, Hh⟩
  rw [show after ops₁ (launchContents m d) = C₁ m d by unfold C₁; rfl]
  ihave Hh := (Entails.of_eq (StableHlo.held_sub_split (d : Thread nD τ) callRefs_sub (C₁ m d))) $$ Hh
  icases Hh with ⟨Hc, Hh⟩
  ihave Hc := (Entails.of_eq (held_call d (C₁ m d))) $$ Hc
  rw [wp_bind]
  iapply ((K (F := F)).wp_run (D (F := F)) 𝒱 (EH := EH) (P := P (Xt m) (It m) (Ft m)) κ d 0) $$ [Hst Hc Hh Hb Hts HG]
  isplitr; · iexact Hctx
  isplitl [Hst]; · iexact Hst
  isplitl [Hc]
  · rw [st_eq]
    iexact Hc
  iintro ⟨Hst, Hdn⟩
  ihave Hc := (Entails.of_eq (dn_eq (Xt m) (It m) (Ft m) d)) $$ Hdn
  ihave Hh := (show iprop(all (Xt m) (It m) d (PV (Xt m d) (It m d)) ∗ held (d : Thread nD τ) (Pipeline.ucRefs τ sig \ callRefs) (C₁ m d))
      ⊢ (held (d : Thread nD τ) (Pipeline.ucRefs τ sig) (C₂ m d) : sProp 𝕄) from held_after m d) $$ [Hc Hh]
  · isplitl [Hc]; · iexact Hc
    iexact Hh
  iapply (StableHlo.wp_seq 𝒱 none Set.univ d (Pipeline.ucRefs τ sig) _ ops₂ ops₂_sub ops₂_fresh (C₂ m d)) $$ [Hb Hh]
  · isplitl [Hb]; · iexact Hb
    iexact Hh
  iintro ⟨Hb, Hh⟩
  rw [show after ops₂ (C₂ m d) = C₃ m d by unfold C₃; rfl]
  ihave Hh := (Entails.of_eq ((Pipeline.unscopedBufs_held d (C₃ m d)).symm.trans (unscopedBufs_eq d _))) $$ Hh
  icases Hh with ⟨H0, H1, H2, H3, H4, H5, H6, H7, -⟩
  rw [wp_bind]
  obtain ⟨R, hR⟩ := tcSt_one (F := F) d
  rw [hR]
  ihave Hst := (Entails.of_eq (show (K (F := F)).tcSt EH d ((0 : Fin 1).val + 1) = _ from hR)) $$ Hst
  icases Hst with ⟨HO, Hrest⟩
  ihave Hlev := (SparseCore.Cfg.ctx_levAts κ) $$ Hctx
  iapply (wp_region (At m) d _) $$ [H0 H1 H2 H3 H4 H5 H6 H7 HO Hrest Hb HG Hts Hlev]
  isplitr [H4 H5 H6 H7 HO Hb HG Hlev]
  · iintro ⟨Hb, Ha, HO⟩
    ihave Ha := (Entails.of_eq (arraysAt_list (At m) d cfg1.N)) $$ Ha
    icases Ha with ⟨-, -, -, H7⟩
    rw [wp_pure]
    imodintro
    isplitl [HO Hrest]
    · isplitl [HO]; · iapply (due_tc d); iexact HO
      iexact Hrest
    isplitl [H0 H1 H2 H3 H7]
    · isplitl [H0]; · iapply (arg_pts m d main_arg0 (by simp)); iexact H0
      isplitl [H1]; · iapply (arg_pts m d main_arg1 (by simp)); iexact H1
      isplitl [H2]; · iapply (arg_pts m d main_arg2 (by simp)); iexact H2
      isplitl [H3]; · iapply (arg_pts m d main_arg3 (by simp)); iexact H3
      iexact H7
    isplitl [Hb] <;> iassumption
  isplitl [Hb]; · iexact Hb
  isplitl [H4 H5 H6 H7 HO]
  · isplitr [HO]
    · rw [arrays_list]
      isplitl [H4]; · iexact H4
      isplitl [H5]; · iexact H5
      isplitl [H6]; · iexact H6
      iexact H7
    iapply (tc_due d); iexact HO
  isplitl [Hlev]; · iexact Hlev
  iexact HG

/-! ## The program's run -/

def fq (d : Dev nD) (s' : Phys nD τ sig (Elt F)) : Prop :=
  s'.mem.mem ((d : Thread nD τ).loc main_arg0) = m ((d : Thread nD τ).loc main_arg0) ∧ s'.mem.mem ((d : Thread nD τ).loc main_arg1) = m ((d : Thread nD τ).loc main_arg1)
    ∧ s'.mem.mem ((d : Thread nD τ).loc main_arg2) = m ((d : Thread nD τ).loc main_arg2) ∧ s'.mem.mem ((d : Thread nD τ).loc main_arg3) = m ((d : Thread nD τ).loc main_arg3)
    ∧ (rdat (At m) d).ArrAt 3 cfg1.N (s'.mem.mem ((d : Thread nD τ).loc main_v7))

theorem agree (s' : Phys nD τ sig (Elt F)) (ℓ : Loc nD τ sig) (f : Buf (Elt F) ℓ) :
    iprop((ℓ ↦{fullShare} f) ∗ SI s') ⊢ (iprop(⌜s'.mem.mem ℓ = f⌝ ∗ SI s') : sProp 𝕄) := by
  iintro ⟨H, HSI⟩
  ihave H := (persistent_entails_right (SI_pointsTo_agree (st := s') (ℓ := ℓ) (I := Finset.univ) (q := fullShare) (f := f))) $$ [HSI H]
  · isplitl [HSI] <;> iassumption
  icases H with ⟨%h1, HSI, -⟩
  isplitr; · ipureintro; exact funext fun (i : Idx ℓ) => h1 i (by simp)
  iexact HSI

theorem hfin (d : Dev nD) (s' : Phys nD τ sig (Elt F)) : iprop(FIN m d ∗ SI s') ⊢ (⌜fq m d s'⌝ : sProp 𝕄) := by
  iintro ⟨⟨H0, H1, H2, H3, ⟨%f, %hf, H7⟩⟩, HSI⟩
  ihave H := (agree s' ((d : Thread nD τ).loc main_arg0) _) $$ [H0 HSI]
  · isplitl [H0] <;> iassumption
  icases H with ⟨%e0, HSI⟩
  ihave H := (agree s' ((d : Thread nD τ).loc main_arg1) _) $$ [H1 HSI]
  · isplitl [H1] <;> iassumption
  icases H with ⟨%e1, HSI⟩
  ihave H := (agree s' ((d : Thread nD τ).loc main_arg2) _) $$ [H2 HSI]
  · isplitl [H2] <;> iassumption
  icases H with ⟨%e2, HSI⟩
  ihave H := (agree s' ((d : Thread nD τ).loc main_arg3) _) $$ [H3 HSI]
  · isplitl [H3] <;> iassumption
  icases H with ⟨%e3, HSI⟩
  ihave H := (agree s' ((d : Thread nD τ).loc main_v7) _) $$ [H7 HSI]
  · isplitl [H7] <;> iassumption
  icases H with ⟨%e7, HSI⟩
  ipureintro
  exact ⟨e0, e1, e2, e3, e7.symm ▸ hf⟩

/-- The run's outcome: arguments unchanged, the result as the region may leave it, every counter at zero. -/
def QC : PUnit × MemSt nD τ sig (Elt F) → Prop := fun r =>
  (∀ d : Dev nD, r.2.mem ((d : Thread nD τ).loc main_arg0) = m ((d : Thread nD τ).loc main_arg0) ∧ r.2.mem ((d : Thread nD τ).loc main_arg1) = m ((d : Thread nD τ).loc main_arg1)
    ∧ r.2.mem ((d : Thread nD τ).loc main_arg2) = m ((d : Thread nD τ).loc main_arg2) ∧ r.2.mem ((d : Thread nD τ).loc main_arg3) = m ((d : Thread nD τ).loc main_arg3)
    ∧ (rdat (At m) d).ArrAt 3 cfg1.N (r.2.mem ((d : Thread nD τ).loc main_v7))) ∧ r.2.sem = fun _ => 0

/-- The program's run from indices in range. -/
theorem run_main [∀ e, Nonempty (Elt F e)] (hI : ∀ d j, (It m d j).toNat < 100000) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (Xt m) (It m) (Ft m)) (A := ∅) facts v₀
    (fun q hq => match q with | 0 => nomatch hq)
    (fun q _ => match q with | 0 => tileObl (Xt m) (It m) (Ft m) hI)
    (fun q _ => match q with | 0 => SparseCore.Cfg.VecSplit.of_plain (vecSplit (Xt m) (It m) (Ft m)))
    m ρ main (fun d => ghost d) (FIN m) (u₀ (F := F)) (sep_elim_left.trans (hu₀ (Xt m) (It m) (Ft m))) (hmain m ρ) (fq m) (hfin m) (QC m) (fun _ h hz => ⟨h, hz⟩)

end Cert.Proof.Run

end
-- ==== Proof.Frames.lean ====
/-
  What the run's memory holds in terms of the arguments, what the precondition gives, and the frame claims.
-/
module

public import proofs.«01_k».proof.Defs
public import proofs.«01_k».proof.Proof.Main
public import proofs.«01_k».proof.Proof.Gen.Kernel
public import proofs.«01_k».proof.Proof.Gen.Pre_indices_in_vocab
public import proofs.«01_k».proof.Proof.Gen.ReferenceIdeal.Run
public import Idealize.ShloMosaic.Lib.ReduceAll
public import Idealize.ShloMosaic.Lib.WordCmp

@[expose] public section

noncomputable section

namespace Cert.Proof.Run

open Cert.KernelIdeal Cert.KernelIdeal.Gen Cert.Proof.Tile Cert.Proof.Model

open Idealize.ShloMosaic Idealize.ShloMosaic.ValueIdx
open Idealize.ShloMosaic.TcCoe
open Idealize.ShloMosaic.StableHlo (held seq after launchContents TRef)
open Idealize.SL.Sem

section Contents

variable {F : FTy → Type} [FloatOps F] (m : (ℓ : Loc nD τ sig) → Buf (Elt F) ℓ) (d : Dev nD)

abbrev arg0 : S16384x50.Idx → BitVec 32 := m ((d : Thread nD τ).loc main_arg0)
abbrev arg1 : S100000x64.Idx → F .f32 := m ((d : Thread nD τ).loc main_arg1)
abbrev arg2 : S100000x64.Idx → F .f32 := m ((d : Thread nD τ).loc main_arg2)
abbrev arg3 : S100000.Idx → F .f32 := m ((d : Thread nD τ).loc main_arg3)

/-- The tiles' indices: the argument's, transposed and cut in 32 × 200 chunks of 128. -/
theorem It_eq : It m d = shapeCast S32x200x128 (transpose S50x16384 [1, 0] (arg0 m d) transposes_S16384x50_S50x16384_1_0) shapeCasts_S50x16384_S32x200x128 := by
  unfold It C₁ ops₁
  simp only [TRef.binary, TRef.nullary, TRef.ternary, TRef.unary, TRef.toBuf, TRef.ofBuf, cast_eq]
  after_results_simp
  rfl

/-- The gathered table: the argument's rows, padded to 128. -/
theorem Xt_eq : Xt m d = pad S100000x128 ![0, 0] ![0, 64] ![0, 0] (arg1 m d) (sitofp .f32 (constantI S_ 32 0#32)) pads_S100000x64_S100000x128_000_0640 h_S_ := by
  unfold Xt C₁ ops₁
  simp only [TRef.binary, TRef.nullary, TRef.ternary, TRef.unary, TRef.toBuf, TRef.ofBuf, cast_eq]
  after_results_simp

attribute [local irreducible] PV

theorem At_0 : (At m d 0 : S32x50x64.Idx → F .f32) = shapeCast S32x50x64 (PV (Xt m d) (It m d)) shapeCasts_S32x3200_S32x50x64 := by
  show C₃ m d (dr main_v4) = _
  unfold C₃ ops₂
  after_results_simp
  rw [C₂_v3]
  rfl
theorem At_1 : (At m d 1 : S64x100000.Idx → F .f32) = transpose S64x100000 [1, 0] (arg2 m d) transposes_S100000x64_S64x100000_1_0 := by
  show C₃ m d (dr main_v5) = _
  unfold C₃ ops₂
  after_results_simp
  rw [C₂_ne m d (dr main_arg2) (by decide)]
  unfold C₁ ops₁
  simp only [TRef.binary, TRef.nullary, TRef.ternary, TRef.unary, TRef.toBuf, TRef.ofBuf, cast_eq]
  after_results_simp
theorem At_2 : (At m d 2 : S1x100000.Idx → F .f32) = shapeCast S1x100000 (arg3 m d) shapeCasts_S100000_S1x100000 := by
  show C₃ m d (dr main_v6) = _
  unfold C₃ ops₂
  after_results_simp
  rw [C₂_ne m d (dr main_arg3) (by decide)]
  unfold C₁ ops₁
  simp only [TRef.binary, TRef.nullary, TRef.ternary, TRef.unary, TRef.toBuf, TRef.ofBuf, cast_eq]
  after_results_simp
  rfl

end Contents

/-! ## The precondition -/

instance : Subsingleton (⟨0, ![]⟩ : Shape).Idx := ⟨fun a b => funext fun k => k.elim0⟩

/-- A word in `[0, 100000)` as a signed number is below 100000. -/
theorem word_lt (v : BitVec 32) (e : IntOp.andi (IntOp.cmpi .sge v 0#32) (IntOp.cmpi .slt v 100000#32) = 1#1) : v.toNat < 100000 := by
  have ofBool_eq_one (p : Bool) : (BitVec.ofBool p = 1#1) ↔ p = true := by cases p <;> decide
  simp only [IntOp.cmpi, WordCmp.andi_ofBool, ofBool_eq_one, Bool.and_eq_true, BitVec.sle_eq_decide, BitVec.slt_eq_decide,
    decide_eq_true_eq, BitVec.toInt_eq_toNat_cond, BitVec.toNat_ofNat, Nat.reducePow, Nat.reduceMod] at e
  omega

/-- The precondition gives every index in range. -/
theorem range_of_pre {F : FTy → Type} [FloatOps F] (a0 : S16384x50.Idx → BitVec 32) (a1 a2 : S100000x64.Idx → F .f32) (a3 : S100000.Idx → F .f32)
    (h : Cert.Pre_indices_in_vocab.fn (F := F) a0 a1 a2 a3 = fun _ => 1#1) (i : S16384x50.Idx) : (a0 i).toNat < 100000 := by
  have e := congrFun h default
  simp only [Cert.Pre_indices_in_vocab.fn] at e
  have := Host.reduce_andi_all _ _ _ _ _ e i
  simp only [andi, cmpi, broadcastInDim, constantI] at this
  exact word_lt _ this

theorem It_range {F : FTy → Type} [FloatOps F] (m : (ℓ : Loc nD τ sig) → Buf (Elt F) ℓ) (h : ∀ d i, (arg0 m d i).toNat < 100000) (d : Dev nD) (j : S32x200x128.Idx) :
    (It m d j).toNat < 100000 := by
  rw [It_eq]
  exact h d _

/-! ## The frames -/

/-- The run from indices in range: it ends with the arguments unchanged and every counter at zero. -/
theorem run_frame {F : FTy → Type} [FloatOps F] [∀ e, Nonempty (Elt F e)] (m : (ℓ : Loc nD τ sig) → Buf (Elt F) ℓ) (ρ : Dev nD → PrngReg)
    (h : ∀ d i, (arg0 m d i).toNat < 100000) :
    θ_run (Cert.KernelIdeal.defs (F := F)) (Cert.KernelIdeal.threads (F := F)) ⟨m, fun _ => 0, ρ⟩ (fun r =>
      (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)) ∧ r.2.sem = fun _ => 0) :=
  (θ_run Cert.KernelIdeal.defs _ _).mono (fun _ h => ⟨fun c => ⟨(h.1 c).1, (h.1 c).2.1, (h.1 c).2.2.1, (h.1 c).2.2.2.1⟩, h.2⟩)
    (run_main m ρ (It_range m h))

/-- The two programs' kernels are the same text: processor by processor, label by label. -/
theorem defs₀_kernel {F : FTy → Type} [FloatOps F] : Cert.Kernel.defs₀ (F := F) = Cert.KernelIdeal.defs₀ (F := F) := by
  funext p k a
  match p, k, a with
  | .tc, 0, a => rfl
  | .tc, 1, a => rfl
  | .scScalar c, 0, a => rfl
  | .scScalar c, 1, a => rfl
  | .scVector c s, 0, a => rfl
  | .scVector c s, 1, a => rfl

theorem defs_kernel {F : FTy → Type} [FloatOps F] : Cert.Kernel.defs (F := F) = Cert.KernelIdeal.defs (F := F) :=
  congrArg (fun D => (Cert.KernelIdeal.sc (F := F)).defs (Pipeline.defs Cert.KernelIdeal.pcfgs D)) (defs₀_kernel (F := F))

theorem frame_kernel : Cert.quiescent_Kernel := fun m ρ hpre => by
  rw [defs_kernel]
  exact run_frame (F := Bits) m ρ fun d => range_of_pre _ _ _ _ (hpre d)

theorem frame_kernelIdeal : Cert.quiescent_KernelIdeal := fun m ρ hpre =>
  run_frame (F := Ideal) m ρ fun d => range_of_pre _ _ _ _ (hpre d)

theorem frame_reference : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run m ρ)

end Cert.Proof.Run

end
-- ==== Proof.PartialSums.lean ====
/-
  The tiles' partial sums over the extended reals: a chunk's eight running sums add up to the sums of its 128 rows
  (`sums_total`), a chunk brings 64 lanes of the accumulator up by them (`chunk_apply`), and so the partial sums of all
  tiles at list `l` and column `d` add up to the sum of the rows that list names (`lists_sum`).
-/
module

public import proofs.«01_k».proof.Proof.Model
public import Idealize.ShloMosaic.PureOps.Ideal
public import Idealize.ShloMosaic.PureOps.Ideal.Laws

@[expose] public section

noncomputable section

namespace Cert.Proof.Value

open Cert.KernelIdeal Cert.KernelIdeal.Gen Cert.Proof.Tile Cert.Proof.Model
open Idealize.ShloMosaic Idealize.ShloMosaic.ValueIdx

/-! ## Sums over a range in rows -/

/-- A sum over `a * b` numbers, row by row. -/
theorem sum_rows (f : ℕ → EReal) (a b : ℕ) :
    ∑ p ∈ Finset.range (a * b), f p = ∑ i ∈ Finset.range a, ∑ j ∈ Finset.range b, f (i * b + j) := by
  induction a with
  | zero => simp
  | succ a ih => rw [Nat.succ_mul, Finset.sum_range_add, ih, Finset.sum_range_succ]

/-- A sum over an even number of numbers, in pairs. -/
theorem sum_pairs (f : ℕ → EReal) (n : ℕ) :
    ∑ i ∈ Finset.range n, f (2 * i) + ∑ i ∈ Finset.range n, f (2 * i + 1) = ∑ r ∈ Finset.range (n * 2), f r := by
  rw [sum_rows, ← Finset.sum_add_distrib]
  refine Finset.sum_congr rfl fun i _ => ?_
  rw [Finset.sum_range_succ, Finset.sum_range_one, Nat.mul_comm 2 i]
  rfl

/-! ## A chunk's sums -/

/-- Column `k` of row `r` of a slab. -/
def cell (g : S128x128.Idx → EReal) (r k : ℕ) : EReal :=
  g (ix2 (⟨r % 128, Nat.mod_lt _ (by decide)⟩ : Fin 128) (⟨k % 128, Nat.mod_lt _ (by decide)⟩ : Fin 128))

theorem rowV_cell (g : S128x128.Idx → EReal) (r : ℕ) (q : Fin 8) (x : S16.Idx) :
    rowV (F := Ideal) g r q x = cell g r (16 * q.val + (x 0).val) := by
  have h : (x 0).val < 16 := (x 0).isLt
  unfold rowV cell
  congr 2
  exact Fin.ext (Nat.mod_eq_of_lt (by omega)).symm

/-- The sum over the first `n` pairs' rows of one parity, lane by lane. -/
def half (g : S128x128.Idx → EReal) (n e : ℕ) (q : Fin 8) : S16.Idx → EReal := fun x =>
  ∑ i ∈ Finset.range n, cell g (2 * i + e) (16 * q.val + (x 0).val)

theorem half_zero (g : S128x128.Idx → EReal) (e : ℕ) (q : Fin 8) : (zeroV (F := Ideal)) = half g 0 e q := by
  funext x
  exact Ideal.ofBits_zero_f32

theorem half_succ (g : S128x128.Idx → EReal) (n e : ℕ) (q : Fin 8) :
    addf (F := Ideal) (φ := .f32) (half g n e q) (rowV (F := Ideal) g (2 * n + e) q) = half g (n + 1) e q := by
  funext x
  unfold half
  rw [Finset.sum_range_succ, ← rowV_cell]
  rfl

/-- The running sums are the sums over the rows of each parity. -/
theorem sums_half (g : S128x128.Idx → EReal) (n : ℕ) :
    sums (F := Ideal) g n = (half g n 0 0, half g n 0 1, half g n 0 2, half g n 0 3, half g n 1 0, half g n 1 1, half g n 1 2, half g n 1 3) := by
  induction n with
  | zero =>
    unfold sums
    rw [← half_zero, ← half_zero, ← half_zero, ← half_zero, ← half_zero, ← half_zero, ← half_zero, ← half_zero]
  | succ n ih =>
    unfold sums; rw [ih]; unfold addPair
    simp only [← half_succ, Nat.add_zero]

/-- The two parities' sums over 64 pairs are the sum over the slab's rows. -/
theorem half_total (g : S128x128.Idx → EReal) (q : Fin 8) (x : S16.Idx) :
    half g 64 0 q x + half g 64 1 q x = ∑ r ∈ Finset.range 128, cell g r (16 * q.val + (x 0).val) :=
  sum_pairs (fun r => cell g r (16 * q.val + (x 0).val)) 64

/-! ## The accumulator -/

/-- Lanes `o …` brought up by the sums of columns `16 q …`. -/
theorem upd_half (A : S3200.Idx → EReal) (g : S128x128.Idx → EReal) (p : ℕ) (q : Fin 8) (j : S3200.Idx) :
    upd (F := Ideal) A (p + 16 * q.val) (half g 64 0 q) (half g 64 1 q) j
      = A j + if p + 16 * q.val ≤ (j 0).val ∧ (j 0).val < p + 16 * q.val + 16 then ∑ r ∈ Finset.range 128, cell g r ((j 0).val - p) else 0 := by
  unfold upd
  split
  · next h =>
    show A j + (half g 64 0 q _ + half g 64 1 q _) = _
    rw [half_total]
    refine congrArg (A j + ·) (Finset.sum_congr rfl fun r _ => congrArg (cell g r) ?_)
    show 16 * q.val + ((j 0).val - (p + 16 * q.val)) = _
    omega
  · rw [add_zero]

/-- A chunk brings 64 lanes up by the sums of its rows. -/
theorem chunk_apply (A : S3200.Idx → EReal) (g : S128x128.Idx → EReal) (p : ℕ) (j : S3200.Idx) :
    chunkAcc (F := Ideal) A p (sums (F := Ideal) g 64) j
      = A j + if p ≤ (j 0).val ∧ (j 0).val < p + 64 then ∑ r ∈ Finset.range 128, cell g r ((j 0).val - p) else 0 := by
  rw [sums_half]
  show upd (F := Ideal) (upd (upd (upd A p (half g 64 0 0) (half g 64 1 0)) (p + 16) (half g 64 0 1) (half g 64 1 1)) (p + 32) (half g 64 0 2)
    (half g 64 1 2)) (p + 48) (half g 64 0 3) (half g 64 1 3) j = _
  rw [show p + 48 = p + 16 * (3 : Fin 8).val from rfl, upd_half, show p + 32 = p + 16 * (2 : Fin 8).val from rfl, upd_half,
    show p + 16 = p + 16 * (1 : Fin 8).val from rfl, upd_half]
  have h0 := upd_half A g p 0 j
  rw [show p + 16 * (0 : Fin 8).val = p from rfl] at h0
  rw [h0]
  simp only [show (1 : Fin 8).val = 1 from rfl, show (2 : Fin 8).val = 2 from rfl, show (3 : Fin 8).val = 3 from rfl]
  generalize ∑ r ∈ Finset.range 128, cell g r ((j 0).val - p) = s
  split_ifs <;> first | omega | simp only [add_zero, zero_add]

/-- A sum over the rows that a chunk's words name, in column `d`. -/
def rowSum (T : S100000x128.Idx → EReal) (I : S32x200x128.Idx → BitVec 32) (w : Fin 32) (c d : ℕ) : EReal :=
  ∑ r ∈ Finset.range 128, cell (gath (F := Ideal) T I w c) r d

/-- The accumulator after `n` chunks, at list `l`, column `d`. -/
theorem accN_apply (T : S100000x128.Idx → EReal) (I : S32x200x128.Idx → BitVec 32) (w : Fin 32) (n l d : ℕ) (hd : d < 64) (j : S3200.Idx)
    (hj : (j 0).val = l * 64 + d) :
    accN (F := Ideal) T I w n j = ∑ c ∈ Finset.range n, if (w.val * 25600 + c * 128) / 16384 = l then rowSum T I w c d else 0 := by
  induction n with
  | zero => exact Ideal.ofBits_zero_f32
  | succ n ih =>
    rw [Finset.sum_range_succ, ← ih]
    show chunkAcc (F := Ideal) (accN (F := Ideal) T I w n) (pos w.val n) (sums (F := Ideal) (gath (F := Ideal) T I w n) 64) j = _
    rw [chunk_apply]
    refine congrArg (accN (F := Ideal) T I w n j + ·) ?_
    unfold pos
    by_cases h : (w.val * 25600 + n * 128) / 16384 = l
    · rw [if_pos h, if_pos (by rw [h]; omega), h, hj, Nat.add_sub_cancel_left]; rfl
    · rw [if_neg h, if_neg (by rw [hj]; omega)]

/-! ## All tiles -/

/-- What position `p` of the flattened words adds in column `d`. -/
def word (T : S100000x128.Idx → EReal) (I : S32x200x128.Idx → BitVec 32) (p d : ℕ) : EReal :=
  cell (gath (F := Ideal) T I (⟨p / 25600 % 32, Nat.mod_lt _ (by decide)⟩ : Fin 32) (p / 128 % 200)) (p % 128) d

/-- The tiles' partial sums at list `l`, column `d`, add up to the sum over the list's positions. -/
theorem lists_sum (T : S100000x128.Idx → EReal) (I : S32x200x128.Idx → BitVec 32) (l d : ℕ) (hl : l < 50) (hd : d < 64) :
    ∑ w : Fin 32, PV (F := Ideal) T I (ix2 w (⟨l * 64 + d, by omega⟩ : Fin 3200)) = ∑ b ∈ Finset.range 16384, word T I (l * 16384 + b) d := by
  have hA : ∀ w : Fin 32, PV (F := Ideal) T I (ix2 w (⟨l * 64 + d, by omega⟩ : Fin 3200))
      = ∑ c ∈ Finset.range 200, ∑ r ∈ Finset.range 128,
          if (w.val * 25600 + c * 128 + r) / 16384 = l then word T I (w.val * 25600 + c * 128 + r) d else 0 := by
    intro w
    have hw := w.isLt
    show accN (F := Ideal) T I w 200 (ix1 (⟨l * 64 + d, by omega⟩ : Fin 3200)) = _
    rw [accN_apply T I w 200 l d hd _ rfl]
    refine Finset.sum_congr rfl fun c hc => ?_
    rw [Finset.mem_range] at hc
    have e : ∀ r ∈ Finset.range 128, (if (w.val * 25600 + c * 128 + r) / 16384 = l then word T I (w.val * 25600 + c * 128 + r) d else 0)
        = if (w.val * 25600 + c * 128) / 16384 = l then cell (gath (F := Ideal) T I w c) r d else 0 := by
      intro r hr
      rw [Finset.mem_range] at hr
      have h1 : (w.val * 25600 + c * 128 + r) / 16384 = (w.val * 25600 + c * 128) / 16384 := by omega
      have h2 : (⟨(w.val * 25600 + c * 128 + r) / 25600 % 32, Nat.mod_lt _ (by decide)⟩ : Fin 32) = w := Fin.ext (by show _ % 32 = _; omega)
      have h3 : (w.val * 25600 + c * 128 + r) / 128 % 200 = c := by omega
      have h4 : (w.val * 25600 + c * 128 + r) % 128 = r := by omega
      unfold word
      rw [h1, h2, h3, h4]
    rw [Finset.sum_congr rfl e]
    split
    · rfl
    · rw [Finset.sum_const_zero]
  rw [Finset.sum_congr rfl fun w _ => hA w]
  have hF : ∀ f : ℕ → EReal, ∑ w : Fin 32, ∑ c ∈ Finset.range 200, ∑ r ∈ Finset.range 128, f (w.val * 25600 + c * 128 + r)
      = ∑ k ∈ Finset.range 50, ∑ b ∈ Finset.range 16384, f (k * 16384 + b) := by
    intro f
    rw [Fin.sum_univ_eq_sum_range (fun w => ∑ c ∈ Finset.range 200, ∑ r ∈ Finset.range 128, f (w * 25600 + c * 128 + r)) 32, ← sum_rows f 50 16384,
      show 50 * 16384 = 32 * 25600 from rfl, sum_rows f 32 25600]
    refine Finset.sum_congr rfl fun w _ => ?_
    rw [show 25600 = 200 * 128 from rfl, sum_rows _ 200 128]
    simp only [Nat.add_assoc]
  rw [hF fun p => if p / 16384 = l then word T I p d else 0]
  rw [Finset.sum_eq_single_of_mem l (Finset.mem_range.mpr hl)]
  · refine Finset.sum_congr rfl fun b hb => ?_
    rw [Finset.mem_range] at hb
    rw [if_pos (by omega)]
  · intro k _ hk
    refine Finset.sum_eq_zero fun b hb => ?_
    rw [Finset.mem_range] at hb
    rw [if_neg (by omega)]

end Cert.Proof.Value

end
-- ==== Proof.Columns.lean ====
/-
  A block of the result over the extended reals, column by column: the logits (`logit`), and the log-softmax over the 50
  lists (`logSm`). The kernel's block is these of its own column alone (`block_apply`), whatever the other columns hold.
-/
module

public import proofs.«01_k».proof.Proof.Tile
public import proofs.«01_k».proof.Proof.Gen.KernelIdeal.Skeleton
public import Idealize.ShloMosaic.PureOps.Ideal
public import Idealize.ShloMosaic.PureOps.Ideal.Laws
public import Idealize.ShloMosaic.PureOps.Reduce
public import Idealize.ShloMosaic.Lib.ValueIdx
public import Idealize.ShloMosaic.Lib.ValueLayout
public import Idealize.ShloMosaic.Lib.Pipeline.Value

@[expose] public section

noncomputable section

namespace Cert.Proof.Value

open Cert.KernelIdeal Cert.KernelIdeal.Gen
open Idealize.ShloMosaic Idealize.ShloMosaic.ValueIdx

/-! ## The two functions of a column -/

/-- The greatest of 50 numbers, from the accumulator's word on. -/
def colMax (z : Fin 50 → EReal) : EReal := Finset.univ.fold max (Ideal.ofBits .f32 0xFF800000#32) z

/-- The log-softmax of 50 numbers. -/
def logSm (z : Fin 50 → EReal) (l : Fin 50) : EReal :=
  (z l - colMax z) - Ideal.log (∑ k, Ideal.exp (z k - colMax z))

/-- A logit: a sum over the 64 columns, and the bias. -/
def logit (S W : Fin 64 → EReal) (b : EReal) : EReal := (∑ k, S k * W k) + b

/-- The maximum is at least what it starts from. -/
theorem max_colMax (z : Fin 50 → EReal) : max (Ideal.ofBits .f32 0xFF800000#32) (colMax z) = colMax z :=
  max_eq_right ((Finset.le_fold_max _).mpr (Or.inl le_rfl))

/-! ## Reductions over the lists -/

section Lists
variable {n : ℕ}

/-- The index a reduction over the lists reads. -/
theorem lift_col (h : Shape.Reduces ⟨2, ![50, n]⟩ [0] ⟨1, ![n]⟩) (y : Fin n) (k : Fin 50) :
    h.lift (ix1 y) k = ix2 k y := by
  funext a
  match a with
  | ⟨0, _⟩ => rfl
  | ⟨1, _⟩ => rfl

theorem sum_col (z : FVec Ideal ⟨2, ![50, n]⟩ .f32) (acc : BitVec 32) (h : Shape.Reduces ⟨2, ![50, n]⟩ [0] ⟨1, ![n]⟩)
    (hφ : FKind.Formats .f32) (hacc : acc = FKind.add.neutral .f32 hφ) (y : Fin n) :
    multiReduction .add [0] ⟨1, ![n]⟩ z acc h hφ hacc (ix1 y) = ∑ k : Fin 50, z (ix2 k y) := by
  rw [Ideal.multiReduction_add_single]
  exact Finset.sum_congr rfl fun k _ => congrArg z (lift_col h y k)

theorem max_col (z : FVec Ideal ⟨2, ![50, n]⟩ .f32) (h : Shape.Reduces ⟨2, ![50, n]⟩ [0] ⟨1, ![n]⟩)
    (hφ : FKind.Formats .f32) (hacc : (0xFF800000#32 : BitVec 32) = FKind.maximumf.neutral .f32 hφ) (y : Fin n) :
    multiReduction .maximumf [0] ⟨1, ![n]⟩ z 0xFF800000#32 h hφ hacc (ix1 y) = colMax fun k => z (ix2 k y) := by
  rw [Ideal.multiReduction_maximumf_single]
  exact Finset.fold_congr fun k _ => congrArg z (lift_col h y k)

end Lists

/-! ## The kernel's block -/

/-- The kernel's logits. -/
def logitK (v0 : FVec Ideal S32x50x64 .f32) (v3 : FVec Ideal S64x16384 .f32) (v6 : FVec Ideal S1x16384 .f32) : FVec Ideal S50x16384 .f32 :=
  addf (matmul dot_S50x64_S64x16384_S50x16384_1_0_0_1_n_n none
      (multiReduction .add [0] S50x64 (shapeCast S32x50x64 v0 shapeCasts_S32x50x64_S32x50x64) 0x00000000#32 reduces_S32x50x64_S50x64 (.inl rfl) rfl)
      (shapeCast S64x16384 v3 shapeCasts_S64x16384_S64x16384) (constant S50x16384 .f32 0x00000000#32))
    (broadcastTo S50x16384 (shapeCast S1x16384 v6 shapeCasts_S1x16384_S1x16384) broadcasts_S1x16384_S50x16384)

/-- A column's maximum, in every row. -/
def maxK (z : FVec Ideal S50x16384 .f32) : FVec Ideal S50x16384 .f32 :=
  broadcastTo S50x16384 (shapeCast S1x16384 (multiReduction .maximumf [0] S16384 z 0xFF800000#32 reduces_S50x16384_S16384 (.inl rfl) rfl)
    shapeCasts_S16384_S1x16384) broadcasts_S1x16384_S50x16384

/-- The kernel's log-softmax. -/
def softK (z : FVec Ideal S50x16384 .f32) : FVec Ideal S50x16384 .f32 :=
  subf (subf z (maxK z)) (broadcastTo S50x16384 (log (shapeCast S1x16384
    (multiReduction .add [0] S16384 (exp (subf z (maxK z))) 0x00000000#32 reduces_S50x16384_S16384 (.inl rfl) rfl) shapeCasts_S16384_S1x16384))
    broadcasts_S1x16384_S50x16384)

theorem pay_eq (v0 : FVec Ideal S32x50x64 .f32) (v3 : FVec Ideal S64x16384 .f32) (v6 : FVec Ideal S1x16384 .f32) :
    k1_pay1 (F := Ideal) v0 v3 v6 = softK (logitK v0 v3 v6) := rfl

theorem maxK_apply (z : FVec Ideal S50x16384 .f32) (l : Fin 50) (y : Fin 16384) : maxK z (ix2 l y) = colMax fun k => z (ix2 k y) := by
  unfold maxK
  rw [broadcastTo_1b_ab_apply, shapeCast_a_1a_apply]
  exact max_col z _ _ _ y

theorem log_at {s : Shape} (x : FVec Ideal s .f32) (i : s.Idx) : log x i = Ideal.log (x i) := rfl

theorem exp_at {s : Shape} (x : FVec Ideal s .f32) (i : s.Idx) : exp x i = Ideal.exp (x i) := rfl

theorem softK_apply (z : FVec Ideal S50x16384 .f32) (l : Fin 50) (y : Fin 16384) : softK z (ix2 l y) = logSm (fun k => z (ix2 k y)) l := by
  unfold softK logSm
  rw [subf_apply, subf_apply, maxK_apply, broadcastTo_1b_ab_apply, log_at, shapeCast_a_1a_apply]
  refine congrArg (fun x => z (ix2 l y) - colMax (fun k => z (ix2 k y)) - Ideal.log x) ?_
  refine (sum_col _ _ _ _ _ y).trans (Finset.sum_congr rfl fun k _ => ?_)
  rw [exp_at, subf_apply, maxK_apply]

/-- The index the sum over the tiles reads. -/
theorem lift_tile (h : Shape.Reduces S32x50x64 [0] S50x64) (l : Fin 50) (k : Fin 64) (w : Fin 32) : h.lift (ix2 l k) w = ix3 w l k := by
  funext a
  match a with
  | ⟨0, _⟩ => rfl
  | ⟨1, _⟩ => rfl
  | ⟨2, _⟩ => rfl

theorem cast_self {s : Shape} {α : Type} (x : s.Idx → α) (h : s.ShapeCasts s) : shapeCast s x h = x :=
  funext fun j => shapeCast_apply x h j j rfl

theorem logitK_apply (v0 : FVec Ideal S32x50x64 .f32) (v3 : FVec Ideal S64x16384 .f32) (v6 : FVec Ideal S1x16384 .f32) (l : Fin 50) (y : Fin 16384) :
    logitK v0 v3 v6 (ix2 l y) = logit (fun k => ∑ w : Fin 32, v0 (ix3 w l k)) (fun k => v3 (ix2 k y)) (v6 (ix2 (0 : Fin 1) y)) := by
  unfold logitK logit
  rw [cast_self, cast_self, cast_self, addf_apply, broadcastTo_1b_ab_apply]
  refine congrArg (· + v6 (ix2 (0 : Fin 1) y)) ?_
  refine (Ideal.matmul_constant_zero_apply _ none _ _ _).trans ?_
  rw [← Equiv.sum_comp (contrEquiv1 dot_S50x64_S64x16384_S50x16384_1_0_0_1_n_n 64 rfl rfl).symm]
  refine Finset.sum_congr rfl fun k _ => ?_
  have hl : dot_S50x64_S64x16384_S50x16384_1_0_0_1_n_n.lhsIdx (ix2 l y) ((contrEquiv1 dot_S50x64_S64x16384_S50x16384_1_0_0_1_n_n 64 rfl rfl).symm k) = ix2 l k := by
    funext a
    match a with
    | ⟨0, _⟩ => rfl
    | ⟨1, _⟩ => rfl
  have hr : dot_S50x64_S64x16384_S50x16384_1_0_0_1_n_n.rhsIdx (ix2 l y) ((contrEquiv1 dot_S50x64_S64x16384_S50x16384_1_0_0_1_n_n 64 rfl rfl).symm k) = ix2 k y := by
    funext a
    match a with
    | ⟨0, _⟩ => rfl
    | ⟨1, _⟩ => rfl
  rw [hl, hr]
  refine congrArg (· * v3 (ix2 k y)) ((Ideal.multiReduction_add_single _ _ _ _ _ _).trans ?_)
  exact Finset.sum_congr rfl fun w _ => congrArg v0 (lift_tile _ l k w)

/-- The kernel's block at list `l`, column `y`: of that column alone. -/
theorem block_apply (v0 : FVec Ideal S32x50x64 .f32) (v3 : FVec Ideal S64x16384 .f32) (v6 : FVec Ideal S1x16384 .f32) (l : Fin 50) (y : Fin 16384) :
    k1_pay1 (F := Ideal) v0 v3 v6 (ix2 l y)
      = logSm (fun i => logit (fun k => ∑ w : Fin 32, v0 (ix3 w i k)) (fun k => v3 (ix2 k y)) (v6 (ix2 (0 : Fin 1) y))) l := by
  rw [pay_eq, softK_apply]
  simp only [logitK_apply]

end Cert.Proof.Value

end
-- ==== Proof.RefValue.lean ====
/-
  The reference over the extended reals, at an index: with every word below 100000 its gather reads the table's row at the
  word (`take_apply`), so its result at list `l`, column `v` is the log-softmax, over the lists, of the logits of the sums of
  the rows that each list names (`ref_apply`).
-/
module

public import proofs.«01_k».proof.Proof.Columns
public import proofs.«01_k».proof.Proof.Gen.ReferenceIdeal.Run
public import Idealize.ShloMosaic.Lib.ReduceAll
public import Idealize.ShloMosaic.Lib.WordCmp

@[expose] public section

noncomputable section

namespace Cert.Proof.Value

open Cert.ReferenceIdeal Cert.ReferenceIdeal.Gen
open Idealize.ShloMosaic Idealize.ShloMosaic.ValueIdx Idealize.ShloMosaic.TcCoe

/-! ## The rows taken -/

/-- A word below 100000 is not negative. -/
theorem word_slt (v : BitVec 32) (h : v.toNat < 100000) : IntOp.cmpi .slt v 0#32 = 0#1 := by
  rw [WordCmp.cmpi_slt_of_lt (by omega) (by decide), decide_eq_false (by simp)]; rfl

theorem word_sge (v : BitVec 32) (h : v.toNat < 100000) : IntOp.cmpi .sge v 0#32 = 1#1 := by
  rw [WordCmp.cmpi_sge_eq, decide_eq_true (by
    rw [WordCmp.toInt_eq_toNat_of_lt_half (show v.toNat < 2 ^ (32 - 1) by omega)]; exact Int.natCast_nonneg _)]
  rfl

theorem word_sle (v : BitVec 32) (h : v.toNat < 100000) : IntOp.cmpi .sle v 99999#32 = 1#1 := by
  rw [WordCmp.cmpi_sle_of_lt (by omega) (by decide), decide_eq_true (by simp; omega)]; rfl

/-- The words, a negative one brought up by 100000. -/
def wrapR (a0 : S16384x50.Idx → BitVec 32) : S16384x50.Idx → BitVec 32 :=
  select (cmpi .slt a0 (broadcastInDim S16384x50 ![] bcast_S_S16384x50 (constantI S_ 32 0#32)))
    (addi a0 (broadcastInDim S16384x50 ![] bcast_S_S16384x50 (constantI S_ 32 100000#32))) a0

theorem wrapR_eq (a0 : S16384x50.Idx → BitVec 32) (h : ∀ i, (a0 i).toNat < 100000) : wrapR a0 = a0 := by
  funext i
  unfold wrapR
  rw [select_apply]
  show Scalar.select (IntOp.cmpi .slt (a0 i) 0#32) _ _ = _
  rw [word_slt _ (h i)]
  rfl

/-- The words as start indices. -/
def startsR (a0 : S16384x50.Idx → BitVec 32) : S16384x50x1.Idx → BitVec 32 :=
  broadcastInDim S16384x50x1 ![0, 1] bcast_S16384x50_S16384x50x1_0_1 (wrapR a0)

/-- Which words are in range. -/
def maskR (a0 : S16384x50.Idx → BitVec 32) : S16384x50.Idx → BitVec 1 :=
  Host.reduce IntOp.andi (andi (cmpi .sge (startsR a0) (broadcastInDim S16384x50x1 ![] bcast_S_S16384x50x1 (constantI S_ 32 0#32)))
    (cmpi .sle (startsR a0) (broadcastInDim S16384x50x1 ![0, 1, 2] bcast_S1x1x1_S16384x50x1_0_1_2
      (broadcastInDim S1x1x1 ![2] bcast_S1_S1x1x1_2 (constantI S1 32 99999#32))))) (constantI S_ 1 1#1) reducesTo_S16384x50x1_S16384x50_d2 h_S_

theorem maskR_one (a0 : S16384x50.Idx → BitVec 32) (h : ∀ i, (a0 i).toNat < 100000) (i : S16384x50.Idx) : maskR a0 i = 1#1 := by
  unfold maskR
  refine Host.reduce_andi_one _ _ _ _ _ rfl fun j => ?_
  have hs : (startsR a0 j).toNat < 100000 := by unfold startsR; rw [wrapR_eq a0 h]; exact h _
  show IntOp.andi (IntOp.cmpi .sge (startsR a0 j) 0#32) (IntOp.cmpi .sle (startsR a0 j) 99999#32) = 1#1
  rw [word_sge _ hs, word_sle _ hs]
  rfl

/-- The start-indices index of a result index. -/
abbrev startIdx (b : Fin 16384) (l : Fin 50) : S16384x50x1.Idx := ix3 b l (0 : Fin 1)

/-- The gather reads the table's row at the start index, in column `k`. -/
theorem gather_rows (x : S100000x64.Idx → EReal) (idx : S16384x50x1.Idx → BitVec 32) (b : Fin 16384) (l : Fin 50) (k : Fin 64) :
    Host.gather gather_S100000x64_S16384x50x1_S16384x50x64_2_0_n_n_0_2_164 x idx (ix3 b l k)
      = x (ix2 (⟨min (idx (startIdx b l)).toInt.toNat 99999, by omega⟩ : Fin 100000) k) := by
  unfold Host.gather
  refine congrArg x (funext fun a => Fin.ext ?_)
  set D := gather_S100000x64_S16384x50x1_S16384x50x64_2_0_n_n_0_2_164
  show D.start (ix3 b l k) idx a + D.batchCoord (ix3 b l k) a + D.offCoord (ix3 b l k) a = _
  rw [GatherDims.batchCoord_eq_zero _ _ _ List.not_mem_nil, Nat.add_zero]
  have h01 : a = 0 ∨ a = 1 := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl)), Nat.add_zero]
    unfold GatherDims.start
    rw [dif_pos (show (0 : Fin 2) ∈ D.startIndexMap from List.mem_singleton.mpr rfl)]
    have hsi : D.siIdx (ix3 b l k) ⟨List.idxOf (0 : Fin 2) D.startIndexMap, List.idxOf_lt_length_iff.2 (List.mem_singleton.mpr rfl)⟩ = startIdx b l := by
      funext c; refine Fin.ext ?_
      match c with
      | ⟨0, _⟩ => rfl
      | ⟨1, _⟩ => rfl
      | ⟨2, _⟩ => rfl
    rw [hsi]
    rfl
  · unfold GatherDims.start
    rw [dif_neg (show (1 : Fin 2) ∉ D.startIndexMap from by decide), Nat.zero_add]
    rfl

/-- The rows taken. -/
def takeR (a0 : S16384x50.Idx → BitVec 32) (a1 : FVec Ideal S100000x64 .f32) : FVec Ideal S16384x50x64 .f32 :=
  select (broadcastInDim S16384x50x64 ![0, 1] bcast_S16384x50_S16384x50x64_0_1 (maskR a0))
    (Host.gather gather_S100000x64_S16384x50x1_S16384x50x64_2_0_n_n_0_2_164 a1 (startsR a0))
    (broadcastInDim S16384x50x64 ![] bcast_S_S16384x50x64 (constant S_ .f32 0x7FC00000#32))

theorem take_apply (a0 : S16384x50.Idx → BitVec 32) (a1 : FVec Ideal S100000x64 .f32) (h : ∀ i, (a0 i).toNat < 100000)
    (b : Fin 16384) (l : Fin 50) (k : Fin 64) :
    takeR a0 a1 (ix3 b l k) = a1 (ix2 (⟨(a0 (ix2 b l)).toNat, h _⟩ : Fin 100000) k) := by
  unfold takeR
  rw [select_apply, show broadcastInDim S16384x50x64 ![0, 1] bcast_S16384x50_S16384x50x64_0_1 (maskR a0) (ix3 b l k) = 1#1 from maskR_one a0 h _,
    select_one, gather_rows]
  have e : startsR a0 (startIdx b l) = a0 (ix2 b l) := by
    unfold startsR
    rw [wrapR_eq a0 h]
    refine broadcastInDim_apply _ _ _ _ _ fun a => ?_
    match a with
    | ⟨0, _⟩ => rfl
    | ⟨1, _⟩ => rfl
  have hb := h (ix2 b l)
  refine congrArg a1 (congrArg (fun x : Fin 100000 => (ix2 x k : S100000x64.Idx)) (Fin.ext ?_))
  show min (startsR a0 (startIdx b l)).toInt.toNat 99999 = (a0 (ix2 b l)).toNat
  rw [e, WordCmp.toInt_eq_toNat_of_lt_half (show (a0 (ix2 b l)).toNat < 2 ^ (32 - 1) by omega), Int.toNat_natCast]
  omega

/-! ## The logits and their log-softmax -/

/-- The rows' sums. -/
def sumR (a0 : S16384x50.Idx → BitVec 32) (a1 : FVec Ideal S100000x64 .f32) : FVec Ideal S50x64 .f32 :=
  Host.reduceAdd (takeR a0 a1) (constant S_ .f32 0x00000000#32) reducesTo_S16384x50x64_S50x64_d0 h_S_

theorem sumR_apply (a0 : S16384x50.Idx → BitVec 32) (a1 : FVec Ideal S100000x64 .f32) (h : ∀ i, (a0 i).toNat < 100000) (l : Fin 50) (k : Fin 64) :
    sumR a0 a1 (ix2 l k) = ∑ b : Fin 16384, a1 (ix2 (⟨(a0 (ix2 b l)).toNat, h _⟩ : Fin 100000) k) := by
  have hr : Shape.Reduces S16384x50x64 [0] S50x64 := by decide
  refine (Ideal.hostReduceAdd_single reducesTo_S16384x50x64_S50x64_d0 hr _ _ _).trans ?_
  rw [constant_apply, Ideal.ofBits_zero_f32, zero_add]
  refine Finset.sum_congr rfl fun b _ => ?_
  rw [← take_apply a0 a1 h b l k]
  refine congrArg (takeR a0 a1) (funext fun a => ?_)
  match a with
  | ⟨0, _⟩ => rfl
  | ⟨1, _⟩ => rfl
  | ⟨2, _⟩ => rfl

/-- The reference's logits. -/
def logitR (S : FVec Ideal S50x64 .f32) (a2 : FVec Ideal S100000x64 .f32) (a3 : FVec Ideal S100000 .f32) : FVec Ideal S50x100000 .f32 :=
  addf (Host.dotGeneral dot_S50x64_S64x100000_S50x100000_1_0_0_1_n_n none S (transpose S64x100000 [1, 0] a2 transposes_S100000x64_S64x100000_1_0))
    (broadcastInDim S50x100000 ![0, 1] bcast_S1x100000_S50x100000_0_1 (broadcastInDim S1x100000 ![1] bcast_S100000_S1x100000_1 a3))

/-- A row of 100000 numbers, as every one of 50 rows, at an index. -/
theorem rows_apply (x : FVec Ideal S1x100000 .f32) (l : Fin 50) (v : Fin 100000) :
    broadcastInDim S50x100000 ![0, 1] bcast_S1x100000_S50x100000_0_1 x (ix2 l v) = x (ix2 (0 : Fin 1) v) := by
  refine broadcastInDim_apply _ _ _ _ _ fun a => ?_
  match a with
  | ⟨0, _⟩ => rfl
  | ⟨1, _⟩ => rfl

theorem row_apply (x : FVec Ideal S100000 .f32) (v : Fin 100000) :
    broadcastInDim S1x100000 ![1] bcast_S100000_S1x100000_1 x (ix2 (0 : Fin 1) v) = x (ix1 v) := by
  refine broadcastInDim_apply _ _ _ _ _ fun a => ?_
  match a with
  | ⟨0, _⟩ => rfl

theorem logitR_apply (S : FVec Ideal S50x64 .f32) (a2 : FVec Ideal S100000x64 .f32) (a3 : FVec Ideal S100000 .f32) (l : Fin 50) (v : Fin 100000) :
    logitR S a2 a3 (ix2 l v) = logit (fun k => S (ix2 l k)) (fun k => a2 (ix2 v k)) (a3 (ix1 v)) := by
  unfold logitR logit
  rw [addf_apply, rows_apply, row_apply]
  refine congrArg (· + a3 (ix1 v)) ?_
  refine (Ideal.dotGeneral_apply dot_S50x64_S64x100000_S50x100000_1_0_0_1_n_n none _ S _ _).trans ?_
  rw [← Equiv.sum_comp (contrEquiv1 dot_S50x64_S64x100000_S50x100000_1_0_0_1_n_n 64 rfl rfl).symm]
  refine Finset.sum_congr rfl fun k _ => ?_
  have hl : dot_S50x64_S64x100000_S50x100000_1_0_0_1_n_n.lhsIdx (ix2 l v) ((contrEquiv1 dot_S50x64_S64x100000_S50x100000_1_0_0_1_n_n 64 rfl rfl).symm k) = ix2 l k := by
    funext a
    match a with
    | ⟨0, _⟩ => rfl
    | ⟨1, _⟩ => rfl
  have hr : dot_S50x64_S64x100000_S50x100000_1_0_0_1_n_n.rhsIdx (ix2 l v) ((contrEquiv1 dot_S50x64_S64x100000_S50x100000_1_0_0_1_n_n 64 rfl rfl).symm k) = ix2 k v := by
    funext a
    match a with
    | ⟨0, _⟩ => rfl
    | ⟨1, _⟩ => rfl
  rw [hl, hr]
  exact congrArg (S (ix2 l k) * ·) (transpose_ix2_apply a2 _ k v)

/-- A column's maximum, in every row. -/
def maxR (z : FVec Ideal S50x100000 .f32) : FVec Ideal S50x100000 .f32 :=
  broadcastInDim S50x100000 ![0, 1] bcast_S1x100000_S50x100000_0_1 (broadcastInDim S1x100000 ![1] bcast_S100000_S1x100000_1
    (maximumf (broadcastInDim S100000 ![] bcast_S_S100000 (constant S_ .f32 0xFF800000#32))
      (Host.reduce FloatOps.maximumf z (constant S_ .f32 0xFF800000#32) reducesTo_S50x100000_S100000_d0 h_S_)))

/-- The reference's log-softmax. -/
def softR (z : FVec Ideal S50x100000 .f32) : FVec Ideal S50x100000 .f32 :=
  subf (subf z (maxR z)) (broadcastInDim S50x100000 ![0, 1] bcast_S1x100000_S50x100000_0_1 (Host.log (broadcastInDim S1x100000 ![1] bcast_S100000_S1x100000_1
    (Host.reduceAdd (Host.exp (subf z (maxR z))) (constant S_ .f32 0x00000000#32) reducesTo_S50x100000_S100000_d0 h_S_))))

theorem lists_reduce : Shape.Reduces S50x100000 [0] S100000 := by decide

theorem maxR_apply (z : FVec Ideal S50x100000 .f32) (l : Fin 50) (v : Fin 100000) : maxR z (ix2 l v) = colMax fun k => z (ix2 k v) := by
  unfold maxR
  rw [rows_apply, row_apply, maximumf_apply, ← max_colMax]
  refine congrArg (max _) ?_
  rw [Host.reduce_eq_fold_single _ _ _ _ lists_reduce]
  exact Finset.fold_congr fun k _ => congrArg z (lift_col lists_reduce v k)

theorem hostLog_at {s : Shape} (x : FVec Ideal s .f32) (i : s.Idx) : Host.log x i = Ideal.log (x i) := rfl

theorem hostExp_at {s : Shape} (x : FVec Ideal s .f32) (i : s.Idx) : Host.exp x i = Ideal.exp (x i) := rfl

theorem softR_apply (z : FVec Ideal S50x100000 .f32) (l : Fin 50) (v : Fin 100000) : softR z (ix2 l v) = logSm (fun k => z (ix2 k v)) l := by
  unfold softR logSm
  rw [subf_apply, subf_apply, maxR_apply, rows_apply, hostLog_at, row_apply]
  refine congrArg (fun x => z (ix2 l v) - colMax (fun k => z (ix2 k v)) - Ideal.log x) ?_
  refine (Ideal.hostReduceAdd_single reducesTo_S50x100000_S100000_d0 lists_reduce _ _ _).trans ?_
  rw [constant_apply, Ideal.ofBits_zero_f32, zero_add]
  refine Finset.sum_congr rfl fun k _ => ?_
  refine (congrArg (Host.exp (subf z (maxR z))) (lift_col lists_reduce v k)).trans ?_
  rw [hostExp_at, subf_apply]
  exact congrArg (fun x => Ideal.exp (z (ix2 (k : Fin 50) v) - x)) (maxR_apply z k v)

/-! ## The result -/

theorem res_eq (m : (ℓ : Loc nD τ sig) → Buf (Elt Ideal) ℓ) (c : Dev nD) :
    Cert.ReferenceIdeal.Value.res_main_v7 (F := Ideal) m c
      = softR (logitR (sumR (m ((c : Thread nD τ).loc main_arg0)) (m ((c : Thread nD τ).loc main_arg1)))
          (m ((c : Thread nD τ).loc main_arg2)) (m ((c : Thread nD τ).loc main_arg3))) := rfl

/-- The reference's result at list `l`, column `v`, from words in range. -/
theorem ref_apply (a0 : S16384x50.Idx → BitVec 32) (a1 a2 : FVec Ideal S100000x64 .f32) (a3 : FVec Ideal S100000 .f32)
    (h : ∀ i, (a0 i).toNat < 100000) (l : Fin 50) (v : Fin 100000) :
    softR (logitR (sumR a0 a1) a2 a3) (ix2 l v)
      = logSm (fun i => logit (fun k => ∑ b : Fin 16384, a1 (ix2 (⟨(a0 (ix2 b i)).toNat, h _⟩ : Fin 100000) k)) (fun k => a2 (ix2 v k)) (a3 (ix1 v))) l := by
  rw [softR_apply]
  simp only [logitR_apply, sumR_apply a0 a1 h]

end Cert.Proof.Value

end
-- ==== Proof.Result.lean ====
/-
  The region's result array, read at a list and a word: the log-softmax, over the lists, of the logits of the partial
  sums, of the projection's column and of the bias's entry (`result_at`).
-/
module

public import proofs.«01_k».proof.Proof.Main
public import proofs.«01_k».proof.Proof.Columns
public import Idealize.ShloMosaic.Lib.Pipeline.ArrRel
public import Idealize.ShloMosaic.Lib.Pipeline.ValueKit

@[expose] public section

noncomputable section

namespace Cert.Proof.Value

open Cert.KernelIdeal Cert.KernelIdeal.Gen Cert.Proof.Run

open Idealize.ShloMosaic hiding ix1 ix2 ix3
open Idealize.ShloMosaic.ValueIdx
open Idealize.ShloMosaic.TcCoe

/-! ## The windows' blocks -/

theorem index_0 : ∀ t : Fin grid1.N, win1_0.index t = ![0, 0, 0] := by decide +kernel
theorem index_1 : ∀ t : Fin grid1.N, win1_1.index t = ![0, t.val] := by decide +kernel
theorem index_2 : ∀ t : Fin grid1.N, win1_2.index t = ![0, t.val] := by decide +kernel
theorem index_3 : ∀ t : Fin grid1.N, win1_3.index t = ![0, t.val] := by decide +kernel

/-- The columns moved at point `t`: 16384 or, of the last block, those inside the array. -/
theorem columns : ∀ t : Fin grid1.N, (win1_1.xsize (grid1.coords t) 0 = 64 ∧ win1_1.xsize (grid1.coords t) 1 = min 16384 (100000 - 16384 * t.val))
    ∧ (win1_2.xsize (grid1.coords t) 0 = 1 ∧ win1_2.xsize (grid1.coords t) 1 = min 16384 (100000 - 16384 * t.val))
    ∧ (win1_3.xsize (grid1.coords t) 0 = 50 ∧ win1_3.xsize (grid1.coords t) 1 = min 16384 (100000 - 16384 * t.val)) := by decide +kernel

section Fetched
variable {F : FTy → Type} [FloatOps F] (d : Dev nD) (A : Arrs F d)

/-- The first window's block is the whole array. -/
theorem fetched_0 (t : Fin cfg1.N) (x : S32x50x64.Idx → F .f32) (j : S32x50x64.Idx) :
    (fetchedAt d A 0 t x : S32x50x64.Idx → F .f32) j = (A 0 : S32x50x64.Idx → F .f32) j := by
  show (A 0 : S32x50x64.Idx → F .f32) ((win1_0.blk t).view.emb j) = _
  refine congrArg (A 0 : S32x50x64.Idx → F .f32) (funext fun a => Fin.ext ?_)
  have e := index_0 t
  fin_cases a <;> blk_simp [e] <;> simp

/-- The second window's block at a column inside the array. -/
theorem fetched_1 (t : Fin cfg1.N) (x : S64x16384.Idx → F .f32) (k : Fin 64) (c : Fin 16384) (h : 16384 * t.val + c.val < 100000) :
    (fetchedAt d A 1 t x : S64x16384.Idx → F .f32) (ix2 k c) = (A 1 : S64x100000.Idx → F .f32) (ix2 k (⟨16384 * t.val + c.val, h⟩ : Fin 100000)) := by
  have hc := (columns t).1
  let y : (win1_1.xblock (grid1.coords t)).Idx := fun
    | 0 => ⟨k.val, by rw [show (win1_1.xblock (grid1.coords t)).size 0 = 64 from hc.1]; exact k.isLt⟩
    | 1 => ⟨c.val, by rw [show (win1_1.xblock (grid1.coords t)).size 1 = _ from hc.2]; have := c.isLt; omega⟩
  have ey : (ix2 k c : S64x16384.Idx) = win1_1.xinj (grid1.coords t) y := funext fun a => Fin.ext (by fin_cases a <;> rfl)
  rw [ey]
  refine (win1_1.fill_xinj (grid1.coords t) x _ y).trans ?_
  show (A 1 : S64x100000.Idx → F .f32) ((win1_1.blk t).view.emb y) = _
  refine congrArg (A 1 : S64x100000.Idx → F .f32) (funext fun a => Fin.ext ?_)
  have e := index_1 t
  fin_cases a
  · blk_simp [e]; simp [y]
  · blk_simp [e]; simp [y]; omega

/-- The third window's block at a column inside the array. -/
theorem fetched_2 (t : Fin cfg1.N) (x : S1x16384.Idx → F .f32) (k : Fin 1) (c : Fin 16384) (h : 16384 * t.val + c.val < 100000) :
    (fetchedAt d A 2 t x : S1x16384.Idx → F .f32) (ix2 k c) = (A 2 : S1x100000.Idx → F .f32) (ix2 k (⟨16384 * t.val + c.val, h⟩ : Fin 100000)) := by
  have hc := (columns t).2.1
  let y : (win1_2.xblock (grid1.coords t)).Idx := fun
    | 0 => ⟨k.val, by rw [show (win1_2.xblock (grid1.coords t)).size 0 = 1 from hc.1]; exact k.isLt⟩
    | 1 => ⟨c.val, by rw [show (win1_2.xblock (grid1.coords t)).size 1 = _ from hc.2]; have := c.isLt; omega⟩
  have ey : (ix2 k c : S1x16384.Idx) = win1_2.xinj (grid1.coords t) y := funext fun a => Fin.ext (by fin_cases a <;> rfl)
  rw [ey]
  refine (win1_2.fill_xinj (grid1.coords t) x _ y).trans ?_
  show (A 2 : S1x100000.Idx → F .f32) ((win1_2.blk t).view.emb y) = _
  refine congrArg (A 2 : S1x100000.Idx → F .f32) (funext fun a => Fin.ext ?_)
  have e := index_2 t
  fin_cases a
  · blk_simp [e]
  · blk_simp [e]; simp [y]; omega

end Fetched

/-- The result's array, read. -/
theorem result_at (A : (d : Dev nD) → Arrs Ideal d) (d : Dev nD) (G : S50x100000.Idx → EReal) (hG : (rdat A d).ArrAt 3 cfg1.N G)
    (l : Fin 50) (v : Fin 100000) :
    G (ix2 l v) = logSm (fun i => logit (fun k => ∑ w : Fin 32, (A d 0 : S32x50x64.Idx → EReal) (ix3 w i k))
      (fun k => (A d 1 : S64x100000.Idx → EReal) (ix2 k v)) ((A d 2 : S1x100000.Idx → EReal) (ix2 (0 : Fin 1) v))) l := by
  haveI : ∀ e, Nonempty (Elt Ideal e) := inferInstance
  obtain ⟨X, hX, hA⟩ := hG.exists_exact
  obtain ⟨after, ha⟩ : ∃ after : (w : Fin cfg1.W) → Fin cfg1.N → (cfg1.win w).block.Idx → Elt Ideal (cfg1.win w).elt, after 3 = X :=
    ⟨Function.update (fun _ _ _ => Classical.arbitrary _) 3 X, Function.update_self _ _ _⟩
  rw [hA after fun u _ _ => congrFun ha u]
  refine congrFun (((rdat A d).withAfter after).arrAt_eq_of_covers 3 (fun i : S50x100000.Idx => logSm (fun l' => logit (fun k => ∑ w : Fin 32, (A d 0 : S32x50x64.Idx → EReal) (ix3 w l' k))
      (fun k => (A d 1 : S64x100000.Idx → EReal) (ix2 k (i 1))) ((A d 2 : S1x100000.Idx → EReal) (ix2 (0 : Fin 1) (i 1)))) (i 0)) (by decide +kernel) fun t hf y => ?_) (ix2 l v)
  obtain ⟨Y, -, t₀, x0, x1, x2, e⟩ := hX t t.isLt hf
  blk_simp
  have hc := (columns t).2.2
  have h0 : (y 0).val < 50 := lt_of_lt_of_eq (y 0).isLt hc.1
  have h1 : (y 1).val < min 16384 (100000 - 16384 * t.val) := lt_of_lt_of_eq (y 1).isLt hc.2
  have hv : 16384 * t.val + (y 1).val < 100000 := by omega
  have ey : win1_3.xinj (grid1.coords t) y = (ix2 (⟨(y 0).val, h0⟩ : Fin 50) (⟨(y 1).val, by omega⟩ : Fin 16384) : S50x16384.Idx) :=
    funext fun a => Fin.ext (by fin_cases a <;> rfl)
  have e3 := index_3 t
  have eb : ((win1_3.blk t).view.emb y : S50x100000.Idx) = ix2 (⟨(y 0).val, h0⟩ : Fin 50) (⟨16384 * t.val + (y 1).val, hv⟩ : Fin 100000) := by
    refine funext fun a => Fin.ext ?_
    fin_cases a
    · blk_simp [e3]; simp
    · blk_simp [e3]; simp; omega
  rw [eb]
  refine (congrFun (congrFun ha t) (win1_3.xinj (grid1.coords t) y)).trans ?_
  refine (congrFun e _).trans ?_
  rw [ey]
  refine (block_apply _ _ _ _ _).trans ?_
  refine congrArg (fun z : Fin 50 → EReal => logSm z (⟨(y 0).val, h0⟩ : Fin 50)) (funext fun i => ?_)
  unfold logit
  refine congrArg₂ (· + ·) (Finset.sum_congr rfl fun k _ => congrArg₂ (· * ·) (Finset.sum_congr rfl fun w _ => ?_) ?_) ?_
  · exact fetched_0 d (A d) t₀ x0 _
  · exact fetched_1 d (A d) t x1 k _ hv
  · exact fetched_2 d (A d) t x2 0 _ hv

end Cert.Proof.Value

end
-- ==== Proof.Algebraic.lean ====
/-
  The value claim: from indices in range, the kernel's result is the reference's. The gathered words are the table's
  entries at the arguments' indices (`word_at`), so the partial sums over the tiles are the reference's sums
  (`partial_at`), and the result's array is the reference's at each list and word (`result_eq`).
-/
module

public import proofs.«01_k».proof.Proof.Frames
public import proofs.«01_k».proof.Proof.PartialSums
public import proofs.«01_k».proof.Proof.RefValue
public import proofs.«01_k».proof.Proof.Result
public import Idealize.ShloMosaic.Lib.KernelVsHost

@[expose] public section

noncomputable section

namespace Cert.Proof.Value

open Cert.KernelIdeal Cert.KernelIdeal.Gen Cert.Proof.Model Cert.Proof.Run

open Idealize.ShloMosaic hiding ix1 ix2 ix3 eq_ix2
open Idealize.ShloMosaic.ValueIdx
open Idealize.ShloMosaic.TcCoe
open Idealize.SL.Sem

attribute [local irreducible] PV Xt It

section Words
variable (m : (ℓ : Loc nD τ sig) → Buf (Elt Ideal) ℓ) (d : Dev nD) (h : ∀ i, (arg0 m d i).toNat < 100000)

/-- The index of position `b` of list `l`, where the tiles read it. -/
theorem index_at (l : Fin 50) (b : Fin 16384) (w : Fin 32) (c : Fin 200) (r : Fin 128)
    (e : w.val * 25600 + c.val * 128 + r.val = l.val * 16384 + b.val) :
    It m d (ix3 w c r) = arg0 m d (ix2 b l) := by
  have e' : l.val * 16384 + b.val = (w.val * 200 + c.val) * 128 + r.val := by rw [← e]; ring
  rw [It_eq]
  refine (shapeCast_apply _ _ (ix3 w c r) (ix2 l b) ?_).trans (transpose_ix2_apply _ _ l b)
  rw [Shape.rowMajor_val_two, Shape.rowMajor_val_three]
  exact e'

/-- The padded table inside the argument's columns. -/
theorem table_at (v : Fin 100000) (k : Fin 128) (hk : k.val < 64) :
    Xt m d (ix2 v k) = arg1 m d (ix2 v (⟨k.val, hk⟩ : Fin 64)) := by
  rw [Xt_eq]
  refine pad_apply_of_inside _ _ _ _ _ _ _ _ _ fun a => ?_
  match a with
  | ⟨0, _⟩ => show v.val = 0 + v.val * (0 + 1); omega
  | ⟨1, _⟩ => show k.val = 0 + k.val * (0 + 1); omega

/-- The word gathered for position `b` of list `l`. -/
theorem word_at (l : Fin 50) (b : Fin 16384) (k : Fin 64) :
    word (Xt m d) (It m d) (l.val * 16384 + b.val) k.val = arg1 m d (ix2 (⟨(arg0 m d (ix2 b l)).toNat, h _⟩ : Fin 100000) k) := by
  have hl := l.isLt
  have hb := b.isLt
  have hk := k.isLt
  unfold word cell gath
  refine (table_at m d _ (⟨k.val % 128, Nat.mod_lt _ (by decide)⟩ : Fin 128) (by show k.val % 128 < 64; omega)).trans ?_
  have e := index_at m d l b (⟨(l.val * 16384 + b.val) / 25600 % 32, Nat.mod_lt _ (by decide)⟩ : Fin 32)
    (⟨(l.val * 16384 + b.val) / 128 % 200 % 200, Nat.mod_lt _ (by decide)⟩ : Fin 200)
    (⟨(l.val * 16384 + b.val) % 128 % 128, Nat.mod_lt _ (by decide)⟩ : Fin 128) (by dsimp only; omega)
  refine congrArg₂ (fun (v : Fin 100000) (k : Fin 64) => arg1 m d (ix2 v k)) (Fin.ext ?_) (Fin.ext (Nat.mod_eq_of_lt (by omega)))
  exact (congrArg (fun x : BitVec 32 => x.toNat % 100000) e).trans (Nat.mod_eq_of_lt (h _))

/-- The tiles' partial sums, added up, are the sums over the lists. -/
theorem partial_at (l : Fin 50) (k : Fin 64) :
    (∑ w : Fin 32, (At m d 0 : S32x50x64.Idx → EReal) (ix3 w l k) : EReal)
      = ∑ b : Fin 16384, arg1 m d (ix2 (⟨(arg0 m d (ix2 b l)).toNat, h _⟩ : Fin 100000) k) := by
  have hl := l.isLt
  have hk := k.isLt
  have e : ∀ w : Fin 32, (At m d 0 : S32x50x64.Idx → EReal) (ix3 w l k)
      = PV (F := Ideal) (Xt m d) (It m d) (ix2 w (⟨l.val * 64 + k.val, by omega⟩ : Fin 3200)) := fun w => by
    rw [At_0]
    refine shapeCast_apply _ _ _ _ ?_
    rw [Shape.rowMajor_val_two, Shape.rowMajor_val_three]
    show w.val * 3200 + (l.val * 64 + k.val) = (w.val * 50 + l.val) * 64 + k.val
    omega
  refine (congrArg (fun f : Fin 32 → EReal => ∑ w, f w) (funext e)).trans ?_
  rw [lists_sum _ _ _ _ hl hk, Finset.sum_range]
  exact Finset.sum_congr rfl fun b _ => word_at m d h l b k

include h in
/-- The result's array is the reference's value of the arguments. -/
theorem result_eq (G : S50x100000.Idx → EReal) (hG : (rdat (At m) d).ArrAt 3 cfg1.N G) :
    G = softR (logitR (sumR (arg0 m d) (arg1 m d)) (arg2 m d) (arg3 m d)) := by
  funext j
  obtain ⟨l, v, rfl⟩ : ∃ (l : Fin 50) (v : Fin 100000), j = ix2 l v := ⟨j 0, j 1, eq_ix2 j⟩
  rw [result_at (At m) d G hG l v]
  refine Eq.trans ?_ (ref_apply (arg0 m d) (arg1 m d) (arg2 m d) (arg3 m d) h l v).symm
  refine congrArg (fun z : Fin 50 → EReal => logSm z l) (funext fun i => ?_)
  unfold logit
  refine congrArg₂ (· + ·) (Finset.sum_congr rfl fun k _ => congrArg₂ (· * ·) (partial_at m d h i k) ?_) ?_
  · rw [At_1]; exact transpose_ix2_apply _ _ k v
  · rw [At_2]; exact shapeCast_a_1a_apply _ _ 0 v

end Words

/-- The kernel's result is the reference's. -/
theorem algebraic : Cert.algebraic_KernelIdeal_ReferenceIdeal := fun m g m' g' hpre hargs => by
  have hr : ∀ (d : Dev nD) i, (arg0 m d i).toNat < 100000 := fun d => range_of_pre _ _ _ _ (hpre d)
  refine ⟨fun c => softR (logitR (sumR (arg0 m c) (arg1 m c)) (arg2 m c) (arg3 m c)), ?_, ?_⟩
  · exact (θ_run Cert.KernelIdeal.defs _ _).mono
      (fun r q c => ⟨result_eq m c (hr c) _ (q.1 c).2.2.2.2, (q.1 c).1, (q.1 c).2.1, (q.1 c).2.2.1, (q.1 c).2.2.2.1⟩)
      (run_main m g (It_range m hr))
  · refine (θ_run Cert.ReferenceIdeal.defs _ _).mono (fun r q c => ⟨(q c).1.trans ?_, (q c).2⟩) (Cert.ReferenceIdeal.Value.run m' g')
    rw [res_eq, (hargs c).1, (hargs c).2.1, (hargs c).2.2.1, (hargs c).2.2.2]

end Cert.Proof.Value

end
-- ==== Proof.lean ====
module

public import proofs.«01_k».proof.Defs
public import proofs.«01_k».proof.Proof.Frames
public import proofs.«01_k».proof.Proof.Algebraic
public import proofs.«01_k».proof.Proof.Gen.Kernel
public import proofs.«01_k».proof.Proof.Gen.KernelIdeal
public import proofs.«01_k».proof.Proof.Gen.ReferenceIdeal
public import proofs.«01_k».proof.Proof.Gen.Pre_indices_in_vocab

@[expose] public section

noncomputable section

namespace Cert.Proof

theorem claim : Cert.Claim := ⟨Cert.Kernel.Gen.facts, Cert.KernelIdeal.Gen.facts, Cert.ReferenceIdeal.Gen.facts, Cert.Pre_indices_in_vocab.Gen.facts,
  Run.frame_kernel, Run.frame_kernelIdeal, Run.frame_reference, trivial, Value.algebraic⟩

end Cert.Proof

end
